-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S_ : Shape := ⟨0, ![]⟩
abbrev S1x1 : Shape := ⟨2, ![1, 1]⟩
abbrev S8x2x256x4096 : Shape := ⟨4, ![8, 2, 256, 4096]⟩
abbrev S7x2 : Shape := ⟨2, ![7, 2]⟩
abbrev S2x256x4096 : Shape := ⟨3, ![2, 256, 4096]⟩
abbrev S1x2x256x4096 : Shape := ⟨4, ![1, 2, 256, 4096]⟩
abbrev S1x1x256x4096 : Shape := ⟨4, ![1, 1, 256, 4096]⟩
abbrev S256x4096 : Shape := ⟨2, ![256, 4096]⟩
abbrev S512x1024 : Shape := ⟨2, ![512, 1024]⟩

abbrev nBuf : Space → Nat
  | .hbm => 9
  | .vmem => 4
  | .smem => 1
  | _ => 0

abbrev bufTy : (tb : Table) → Fin (tcTables nBuf tb) → BufTy
  | .hbm, ⟨0, _⟩ => ⟨S512x4096, .i8⟩
  | .hbm, ⟨1, _⟩ => ⟨S4096x1024, .i8⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S4096x1024, .f32⟩
  | .local _ .vmem, ⟨0, _⟩ => ⟨S512x4096, .i8⟩
  | .local _ .vmem, ⟨1, _⟩ => ⟨S4096x1024, .i8⟩
  | .local _ .vmem, ⟨2, _⟩ => ⟨S4096x1024, .f32⟩
  | .local _ .vmem, ⟨3, _⟩ => ⟨S8x2x256x4096, .i8⟩
  | .local _ .smem, ⟨0, _⟩ => ⟨S1x1, .f32⟩
  | _, _ => ⟨S512x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_13 : BitVec 32 := 1#32
  let v23 : BitVec 32 := Scalar.muli v10 c1_i32_13
  let v24 : BitVec 32 := Scalar.addi c0_i32 v23
  v24.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_15 : BitVec 32 := 1#32
  let v25 : BitVec 32 := Scalar.muli v7 c1_i32_15
  let v26 : BitVec 32 := Scalar.addi c0_i32_16 v25
  v26.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_18 : BitVec 32 := 1#32
  let v27 : BitVec 32 := Scalar.muli v12 c1_i32_18
  let v28 : BitVec 32 := Scalar.addi c0_i32_19 v27
  v28.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : Index := Scalar.indexCast v2
  let c0_22 : Index := 0#32
  let c0_23 : Index := 0#32
  let c0_24 : Index := 0#32
  ![v32.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_26 : BitVec 32 := 0#32
  let c0_i32_33 : BitVec 32 := 0#32
  let c0_i32_34 : BitVec 32 := 0#32
  ![v2.toNat, 0, 0, 0]
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_31 : BitVec 32 := 1#32
  let v36 : BitVec 32 := Scalar.muli v7 c1_i32_31
  let v37 : BitVec 32 := Scalar.addi c0_i32_32 v36
  v37.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_43 : BitVec 32 := 1#32
  let v46 : BitVec 32 := Scalar.muli v10 c1_i32_43
  let v47 : BitVec 32 := Scalar.addi c0_i32_44 v46
  v47.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_55 : BitVec 32 := 1#32
  let v56 : BitVec 32 := Scalar.muli v12 c1_i32_55
  let v57 : BitVec 32 := Scalar.addi c0_i32_56 v56
  v57.toNat
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_62 : BitVec 32 := 1#32
  let c0_i32_69 : BitVec 32 := 0#32
  let c0_i32_70 : BitVec 32 := 0#32
  ![v2.toNat, 1, 0, 0]
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_67 : BitVec 32 := 1#32
  let v66 : BitVec 32 := Scalar.muli v7 c1_i32_67
  let v67 : BitVec 32 := Scalar.addi c0_i32_68 v66
  v67.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_79 : BitVec 32 := 1#32
  let v76 : BitVec 32 := Scalar.muli v10 c1_i32_79
  let v77 : BitVec 32 := Scalar.addi c0_i32_80 v76
  v77.toNat
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_91 : BitVec 32 := 1#32
  let v86 : BitVec 32 := Scalar.muli v12 c1_i32_91
  let v87 : BitVec 32 := Scalar.addi c0_i32_92 v86
  v87.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v106 : BitVec 32 := Scalar.muli v2 c512_i32
  let v107 : Index := Scalar.indexCast v106
  let c0_103 : Index := 0#32
  ![v107.toNat, 0]
def k0_off5 (d0 : Dev nD) (c3_i32 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c0_i32_105 : BitVec 32 := 0#32
  let c0_i32_112 : BitVec 32 := 0#32
  let c0_i32_113 : BitVec 32 := 0#32
  ![v10.toNat, 0, 0, 0]
def k0_dev10 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_122 : BitVec 32 := 1#32
  let v117 : BitVec 32 := Scalar.muli v7 c1_i32_122
  let v118 : BitVec 32 := Scalar.addi c0_i32_123 v117
  v118.toNat
def k0_off6 (d0 : Dev nD) (c3_i32 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c1_i32_129 : BitVec 32 := 1#32
  let c0_i32_136 : BitVec 32 := 0#32
  let c0_i32_137 : BitVec 32 := 0#32
  ![v10.toNat, 1, 0, 0]
def k0_dev11 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_146 : BitVec 32 := 1#32
  let v135 : BitVec 32 := Scalar.muli v7 c1_i32_146
  let v136 : BitVec 32 := Scalar.addi c0_i32_147 v135
  v136.toNat
def k0_off7 (d0 : Dev nD) (c3_i32 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let v145 : Index := Scalar.indexCast v10
  let c0_152 : Index := 0#32
  let c0_153 : Index := 0#32
  let c0_154 : Index := 0#32
  ![v145.toNat, 0, 0, 0]
def k0_off8 (d0 : Dev nD) (c3_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c512_i32_160 : BitVec 32 := 512#32
  let v157 : BitVec 32 := Scalar.muli v10 c512_i32_160
  let v158 : Index := Scalar.indexCast v157
  let c0_161 : Index := 0#32
  ![v158.toNat, 0]
def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c0_i32_163 : BitVec 32 := 0#32
  let c0_i32_170 : BitVec 32 := 0#32
  let c0_i32_171 : BitVec 32 := 0#32
  ![v12.toNat, 0, 0, 0]
def k0_dev12 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_180 : BitVec 32 := 1#32
  let v168 : BitVec 32 := Scalar.muli v7 c1_i32_180
  let v169 : BitVec 32 := Scalar.addi c0_i32_181 v168
  v169.toNat
def k0_dev13 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_191 : BitVec 32 := 1#32
  let v178 : BitVec 32 := Scalar.muli v10 c1_i32_191
  let v179 : BitVec 32 := Scalar.addi c0_i32_192 v178
  v179.toNat
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_198 : BitVec 32 := 1#32
  let c0_i32_205 : BitVec 32 := 0#32
  let c0_i32_206 : BitVec 32 := 0#32
  ![v12.toNat, 1, 0, 0]
def k0_dev14 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_215 : BitVec 32 := 1#32
  let v196 : BitVec 32 := Scalar.muli v7 c1_i32_215
  let v197 : BitVec 32 := Scalar.addi c0_i32_216 v196
  v197.toNat
def k0_dev15 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_227 : BitVec 32 := 1#32
  let v206 : BitVec 32 := Scalar.muli v10 c1_i32_227
  let v207 : BitVec 32 := Scalar.addi c0_i32_228 v206
  v207.toNat
def k0_off11 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let v216 : Index := Scalar.indexCast v12
  let c0_233 : Index := 0#32
  let c0_234 : Index := 0#32
  let c0_235 : Index := 0#32
  ![v216.toNat, 0, 0, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c512_i32_241 : BitVec 32 := 512#32
  let v228 : BitVec 32 := Scalar.muli v12 c512_i32_241
  let v229 : Index := Scalar.indexCast v228
  let c0_242 : Index := 0#32
  ![v229.toNat, 0]
def k0_off13 (d0 : Dev nD) (c1_i32_0 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.addi v3 c1_i32_0
  let c4_i32_1 : BitVec 32 := 4#32
  let v6 : BitVec 32 := Scalar.remsi v5 c4_i32_1
  let v7 : BitVec 32 := Scalar.addi v4 v6
  let c4_i32_8 : BitVec 32 := 4#32
  let v18 : BitVec 32 := Scalar.addi v7 c4_i32_8
  let c8_i32_9 : BitVec 32 := 8#32
  let v19 : BitVec 32 := Scalar.remsi v18 c8_i32_9
  let c0_i32_278 : BitVec 32 := 0#32
  let c0_i32_285 : BitVec 32 := 0#32
  let c0_i32_286 : BitVec 32 := 0#32
  ![v19.toNat, 0, 0, 0]
def k0_dev16 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_294 : BitVec 32 := 1#32
  let v270 : BitVec 32 := Scalar.muli v10 c1_i32_294
  let v271 : BitVec 32 := Scalar.addi c0_i32_295 v270
  v271.toNat
def k0_off14 (d0 : Dev nD) (c1_i32_0 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.addi v3 c1_i32_0
  let c4_i32_1 : BitVec 32 := 4#32
  let v6 : BitVec 32 := Scalar.remsi v5 c4_i32_1
  let v7 : BitVec 32 := Scalar.addi v4 v6
  let c4_i32_8 : BitVec 32 := 4#32
  let v18 : BitVec 32 := Scalar.addi v7 c4_i32_8
  let c8_i32_9 : BitVec 32 := 8#32
  let v19 : BitVec 32 := Scalar.remsi v18 c8_i32_9
  let c1_i32_301 : BitVec 32 := 1#32
  let c0_i32_308 : BitVec 32 := 0#32
  let c0_i32_309 : BitVec 32 := 0#32
  ![v19.toNat, 1, 0, 0]
def k0_dev17 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_318 : BitVec 32 := 1#32
  let v288 : BitVec 32 := Scalar.muli v10 c1_i32_318
  let v289 : BitVec 32 := Scalar.addi c0_i32_319 v288
  v289.toNat
def k0_off15 (d0 : Dev nD) (c1_i32_0 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.addi v3 c1_i32_0
  let c4_i32_1 : BitVec 32 := 4#32
  let v6 : BitVec 32 := Scalar.remsi v5 c4_i32_1
  let v7 : BitVec 32 := Scalar.addi v4 v6
  let c4_i32_8 : BitVec 32 := 4#32
  let v18 : BitVec 32 := Scalar.addi v7 c4_i32_8
  let c8_i32_9 : BitVec 32 := 8#32
  let v19 : BitVec 32 := Scalar.remsi v18 c8_i32_9
  let v298 : Index := Scalar.indexCast v19
  let c0_324 : Index := 0#32
  let c0_325 : Index := 0#32
  let c0_326 : Index := 0#32
  ![v298.toNat, 0, 0, 0]
def k0_off16 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.addi v3 c1_i32_0
  let c4_i32_1 : BitVec 32 := 4#32
  let v6 : BitVec 32 := Scalar.remsi v5 c4_i32_1
  let v7 : BitVec 32 := Scalar.addi v4 v6
  let c4_i32_8 : BitVec 32 := 4#32
  let v18 : BitVec 32 := Scalar.addi v7 c4_i32_8
  let c8_i32_9 : BitVec 32 := 8#32
  let v19 : BitVec 32 := Scalar.remsi v18 c8_i32_9
  let c512_i32_332 : BitVec 32 := 512#32
  let v310 : BitVec 32 := Scalar.muli v19 c512_i32_332
  let v311 : Index := Scalar.indexCast v310
  let c0_333 : Index := 0#32
  ![v311.toNat, 0]
abbrev stage0_0 : Fin 1 → Memref sig .tc .vmem S512x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Mesh.lean ====
/-
  The mesh of the all-gather: eight devices in two rings of four (`c / 4` says which ring), each
  device wired to its two neighbours on its own ring and to its opposite on the other ring.

  Seven flows carry the blocks. On flow `f` device `c` sends the two halves of one block to one
  device; the tables below say which block (`blk`) and to whom (`tgt`), and, seen by the receiver,
  from whom (`src`) and which block (`rblk`).

    0 FA   own block to the right          3 FB   the left neighbour's block, on to the right
    1 BA   own block to the left           4 FD   the opposite's block, on to the right
    2 Z    own block to the opposite       5 BC   the opposite's block, on to the left
                                           6 BD   the right neighbour's opposite's block, on to the left
-/
module

public import Idealize.ShloMosaic.PureOps

@[expose] public section

namespace Cert.Mesh

/-- The neighbour one step up the own ring. -/
def right (c : Fin 8) : Fin 8 := ⟨(c.val / 4 * 4 + (c.val + 1) % 4) % 8, Nat.mod_lt _ (by decide)⟩
/-- The neighbour one step down the own ring. -/
def left (c : Fin 8) : Fin 8 := ⟨(c.val / 4 * 4 + (c.val + 3) % 4) % 8, Nat.mod_lt _ (by decide)⟩
/-- The opposite device, on the other ring. -/
def anti (c : Fin 8) : Fin 8 := ⟨(c.val + 4) % 8, Nat.mod_lt _ (by decide)⟩

/-- The device that flow `f` goes to from device `c`. -/
def tgt (f : Fin 7) (c : Fin 8) : Fin 8 :=
  match f with
  | 0 => right c | 1 => left c | 2 => anti c | 3 => right c | 4 => right c | 5 => left c | 6 => left c
/-- The device that flow `f` comes from at device `c`. -/
def src (f : Fin 7) (c : Fin 8) : Fin 8 :=
  match f with
  | 0 => left c | 1 => right c | 2 => anti c | 3 => left c | 4 => left c | 5 => right c | 6 => right c
/-- The block that device `c` sends on flow `f`. -/
def blk (f : Fin 7) (c : Fin 8) : Fin 8 :=
  match f with
  | 0 => c | 1 => c | 2 => c | 3 => left c | 4 => anti c | 5 => anti c | 6 => anti (right c)
/-- The block that device `c` receives on flow `f`. -/
def rblk (f : Fin 7) (c : Fin 8) : Fin 8 := blk f (src f c)

/-- Sender and receiver of a flow undo each other. -/
theorem src_tgt : ∀ (f : Fin 7) (c : Fin 8), src f (tgt f c) = c := by decide
theorem tgt_src : ∀ (f : Fin 7) (c : Fin 8), tgt f (src f c) = c := by decide
/-- The receiver of a flow is given the block that its sender reads. -/
theorem rblk_tgt (f : Fin 7) (c : Fin 8) : rblk f (tgt f c) = blk f c := by unfold rblk; rw [src_tgt]

/-- The targets of a flow, as a rearrangement of the devices. -/
def tgtE (f : Fin 7) : Fin 8 ≃ Fin 8 := ⟨tgt f, src f, src_tgt f, tgt_src f⟩

/-- The three devices that signal device `c`'s barrier: its left, its right and its opposite. -/
def payer (k : Fin 3) (c : Fin 8) : Fin 8 := match k with | 0 => left c | 1 => right c | 2 => anti c
/-- The device whose barrier device `c` signals as its `k`-th payer. -/
def payee (k : Fin 3) (c : Fin 8) : Fin 8 := match k with | 0 => right c | 1 => left c | 2 => anti c
/-- Who pays a signal and whom it is paid to undo each other. -/
theorem payee_payer : ∀ (k : Fin 3) (c : Fin 8), payee k (payer k c) = c := by decide
theorem payer_payee : ∀ (k : Fin 3) (c : Fin 8), payer k (payee k c) = c := by decide
/-- Paying as a permutation of the devices. -/
def payeeE (k : Fin 3) : Fin 8 ≃ Fin 8 := ⟨payee k, payer k, payer_payee k, payee_payer k⟩

/-- The flow `f` is one that goes to the `k`-th payer: the device that signals is the one that will be
    written to. -/
def kOf (f : Fin 7) : Fin 3 := match f with | 0 => 1 | 1 => 0 | 2 => 2 | 3 => 1 | 4 => 1 | 5 => 0 | 6 => 0
/-- The signal that a flow rests on is paid by the flow's receiver to its sender. -/
theorem payer_kOf : ∀ (f : Fin 7) (c : Fin 8), payer (kOf f) c = tgt f c := by decide
theorem payee_kOf : ∀ (f : Fin 7) (c : Fin 8), payee (kOf f) c = src f c := by decide

/-- A device's own block and the seven that it receives are all eight, each once. -/
theorem rblk_inj : ∀ (c : Fin 8) (f g : Fin 7), rblk f c = rblk g c → f = g := by decide
/-- No flow brings a device its own block. -/
theorem rblk_ne : ∀ (c : Fin 8) (f : Fin 7), rblk f c ≠ c := by decide
/-- Every block but the own one comes by some flow. -/
theorem blocks_all : ∀ c b : Fin 8, b = c ∨ ∃ f, b = rblk f c := by decide

/-- How far along the order of waits a flow's landing is: what arrives from a neighbour's own block
    comes before what is passed on once, and that before what is passed on twice. -/
def depth (f : Fin 7) : ℕ := match f with | 0 => 2 | 1 => 2 | 2 => 2 | 3 => 3 | 4 => 3 | 5 => 3 | 6 => 4

/-- The copies of one device, in the order in which it starts them. -/
def sends : List (Fin 7 × Fin 2) :=
  [(0, 0), (1, 0), (2, 0), (0, 1), (1, 1), (2, 1), (3, 0), (3, 1), (4, 0), (5, 0), (4, 1), (5, 1), (6, 0), (6, 1)]

end Cert.Mesh
-- ==== Proof.Ideal.Geo.lean ====
/-
  Where the kernel's copies read and write. The gather buffer holds eight blocks, one for each
  device, each in two halves of 256 rows. This module names the view of half `s` of block `b`
  (`sub b s`), shows that every slice that the kernel takes is one of them, and gives the
  elements under a half and under a whole block.
-/
module

public import proofs.«01_k».proof.Proof.Mesh
public import proofs.«01_k».proof.Proof.Gen.KernelIdeal
public import proofs.«01_k».proof.Proof.Gen.KernelIdeal.Skeleton
public import Idealize.ShloMosaic.Lib.Tactic

@[expose] public section

noncomputable section

namespace Cert.KernelIdeal.Talk

open Cert.Mesh Cert.KernelIdeal Cert.KernelIdeal.Gen
open Idealize.ShloMosaic Idealize.ShloMosaic.TcCoe
open Idealize.SL Idealize.SL.Sem

/-- The gather buffer. -/
abbrev allx : Memref sig .tc .vmem S8x2x256x4096 .i8 := Memref.whole cc0_scratch0

/-- The first element of half `s` of block `b`. -/
abbrev offS (b : Fin 8) (s : Fin 2) : Fin 4 → ℕ := ![b.val, s.val, 0, 0]

/-- A half and a block lie inside the gather buffer. -/
theorem offS_half : ∀ (b : Fin 8) (s : Fin 2) a, offS b s a + S1x1x256x4096.size a ≤ S8x2x256x4096.size a := by decide
theorem offS_slot : ∀ (b : Fin 8) a, offS b 0 a + S1x2x256x4096.size a ≤ S8x2x256x4096.size a := by decide

/-- Half `s` of block `b` of the gather buffer, as the copies see it: 256 rows of 4096 elements. -/
def sub (b : Fin 8) (s : Fin 2) : Memref sig .tc .vmem S256x4096 .i8 :=
  (allx.slice (Rect.unit (s := S8x2x256x4096) (offS b s) S1x1x256x4096.size (offS_half b s)) (fun _ => rfl)).squeeze
    S256x4096 squeezes_S1x1x256x4096_S256x4096

/-- A slice of the gather buffer at the first element of a half is that half. -/
theorem sub_of {off : Fin 4 → ℕ} {inb} (b : Fin 8) (s : Fin 2) (h : off = offS b s) :
    (allx.slice (Rect.unit (s := S8x2x256x4096) off S1x1x256x4096.size inb) (fun _ => rfl)).squeeze
      S256x4096 squeezes_S1x1x256x4096_S256x4096 = sub b s := by
  subst h; rfl

/-! ## The kernel's offsets and devices -/

theorem off1 : ∀ c, k0_off1 c = offS c 0 := by decide +kernel
theorem off2 : ∀ c, k0_off2 c = offS c 0 := by decide +kernel
theorem off3 : ∀ c, k0_off3 c = offS c 1 := by decide +kernel
theorem off5_l : ∀ c, k0_off5 c 3#32 = offS (left c) 0 := by decide +kernel
theorem off5_r : ∀ c, k0_off5 c 1#32 = offS (right c) 0 := by decide +kernel
theorem off5_ll : ∀ c, k0_off5 c 2#32 = offS (left (left c)) 0 := by decide +kernel
theorem off6_l : ∀ c, k0_off6 c 3#32 = offS (left c) 1 := by decide +kernel
theorem off6_r : ∀ c, k0_off6 c 1#32 = offS (right c) 1 := by decide +kernel
theorem off6_ll : ∀ c, k0_off6 c 2#32 = offS (left (left c)) 1 := by decide +kernel
theorem off7_l : ∀ c, k0_off7 c 3#32 = offS (left c) 0 := by decide +kernel
theorem off7_r : ∀ c, k0_off7 c 1#32 = offS (right c) 0 := by decide +kernel
theorem off7_ll : ∀ c, k0_off7 c 2#32 = offS (left (left c)) 0 := by decide +kernel
theorem off9 : ∀ c, k0_off9 c = offS (anti c) 0 := by decide +kernel
theorem off10 : ∀ c, k0_off10 c = offS (anti c) 1 := by decide +kernel
theorem off11 : ∀ c, k0_off11 c = offS (anti c) 0 := by decide +kernel
theorem off13_l : ∀ c, k0_off13 c 3#32 = offS (anti (left c)) 0 := by decide +kernel
theorem off13_r : ∀ c, k0_off13 c 1#32 = offS (anti (right c)) 0 := by decide +kernel
theorem off13_rr : ∀ c, k0_off13 c 2#32 = offS (anti (right (right c))) 0 := by decide +kernel
theorem off14_l : ∀ c, k0_off14 c 3#32 = offS (anti (left c)) 1 := by decide +kernel
theorem off14_r : ∀ c, k0_off14 c 1#32 = offS (anti (right c)) 1 := by decide +kernel
theorem off14_rr : ∀ c, k0_off14 c 2#32 = offS (anti (right (right c))) 1 := by decide +kernel
theorem off15_l : ∀ c, k0_off15 c 3#32 = offS (anti (left c)) 0 := by decide +kernel
theorem off15_r : ∀ c, k0_off15 c 1#32 = offS (anti (right c)) 0 := by decide +kernel
theorem off15_rr : ∀ c, k0_off15 c 2#32 = offS (anti (right (right c))) 0 := by decide +kernel

/-- The first element of row block `b` of the result. -/
abbrev offO (b : Fin 8) : Fin 2 → ℕ := ![512 * b.val, 0]

theorem off4 : ∀ c, k0_off4 c = offO c := by decide +kernel
theorem off8_l : ∀ c, k0_off8 c 3#32 = offO (left c) := by decide +kernel
theorem off8_r : ∀ c, k0_off8 c 1#32 = offO (right c) := by decide +kernel
theorem off8_ll : ∀ c, k0_off8 c 2#32 = offO (left (left c)) := by decide +kernel
theorem off12 : ∀ c, k0_off12 c = offO (anti c) := by decide +kernel
theorem off16_l : ∀ c, k0_off16 c 3#32 = offO (anti (left c)) := by decide +kernel
theorem off16_r : ∀ c, k0_off16 c 1#32 = offO (anti (right c)) := by decide +kernel
theorem off16_rr : ∀ c, k0_off16 c 2#32 = offO (anti (right (right c))) := by decide +kernel

theorem dev1 : ∀ c, (⟨k0_dev1 c, k0_dev1_lt c⟩ : Dev nD) = left c := by decide +kernel
theorem dev2 : ∀ c, (⟨k0_dev2 c, k0_dev2_lt c⟩ : Dev nD) = right c := by decide +kernel
theorem dev3 : ∀ c, (⟨k0_dev3 c, k0_dev3_lt c⟩ : Dev nD) = anti c := by decide +kernel
theorem dev4 : ∀ c, (⟨k0_dev4 c, k0_dev4_lt c⟩ : Dev nD) = right c := by decide +kernel
theorem dev5 : ∀ c, (⟨k0_dev5 c, k0_dev5_lt c⟩ : Dev nD) = left c := by decide +kernel
theorem dev6 : ∀ c, (⟨k0_dev6 c, k0_dev6_lt c⟩ : Dev nD) = anti c := by decide +kernel
theorem dev7 : ∀ c, (⟨k0_dev7 c, k0_dev7_lt c⟩ : Dev nD) = right c := by decide +kernel
theorem dev8 : ∀ c, (⟨k0_dev8 c, k0_dev8_lt c⟩ : Dev nD) = left c := by decide +kernel
theorem dev9 : ∀ c, (⟨k0_dev9 c, k0_dev9_lt c⟩ : Dev nD) = anti c := by decide +kernel
theorem dev10 : ∀ c, (⟨k0_dev10 c, k0_dev10_lt c⟩ : Dev nD) = right c := by decide +kernel
theorem dev11 : ∀ c, (⟨k0_dev11 c, k0_dev11_lt c⟩ : Dev nD) = right c := by decide +kernel
theorem dev12 : ∀ c, (⟨k0_dev12 c, k0_dev12_lt c⟩ : Dev nD) = right c := by decide +kernel
theorem dev13 : ∀ c, (⟨k0_dev13 c, k0_dev13_lt c⟩ : Dev nD) = left c := by decide +kernel
theorem dev14 : ∀ c, (⟨k0_dev14 c, k0_dev14_lt c⟩ : Dev nD) = right c := by decide +kernel
theorem dev15 : ∀ c, (⟨k0_dev15 c, k0_dev15_lt c⟩ : Dev nD) = left c := by decide +kernel
theorem dev16 : ∀ c, (⟨k0_dev16 c, k0_dev16_lt c⟩ : Dev nD) = left c := by decide +kernel
theorem dev17 : ∀ c, (⟨k0_dev17 c, k0_dev17_lt c⟩ : Dev nD) = left c := by decide +kernel

/-! ## The semaphores -/

/-- The semaphore that counts what flow `f`, half `s` has read of its source. -/
def sendS (f : Fin 7) (s : Fin 2) : DmaSem sig := ⟨4 + (2 * f.val + s.val), by revert f s; decide⟩
/-- The semaphore that counts what flow `f`, half `s` has landed. -/
def recvS (f : Fin 7) (s : Fin 2) : DmaSem sig := ⟨18 + (2 * f.val + s.val), by revert f s; decide⟩
/-- The barrier. -/
abbrev barS : Sem sig := sig.barrier 0 rfl

theorem fs_off : ∀ (f : Fin 7) (s : Fin 2) a, (![f.val, s.val] : Fin 2 → ℕ) a + S1x1.size a ≤ S7x2.size a := by decide

/-- A slice of the send semaphores at `(f, s)` is flow `f`'s, half `s`'s. -/
theorem send_of : ∀ (f : Fin 7) (s : Fin 2),
    ((cc0_scratch1.slice (Rect.unit (s := S7x2) ![f.val, s.val] S1x1.size (fs_off f s))).squeeze S_ squeezes_S1x1_S_).sem = sendS f s := by
  decide +kernel
theorem recv_of : ∀ (f : Fin 7) (s : Fin 2),
    ((cc0_scratch2.slice (Rect.unit (s := S7x2) ![f.val, s.val] S1x1.size (fs_off f s))).squeeze S_ squeezes_S1x1_S_).sem = recvS f s := by
  decide +kernel

/-! ## The elements under a half and under a block -/

/-- The elements of half `s` of block `b`. -/
def half (b : Fin 8) (s : Fin 2) : Finset S8x2x256x4096.Idx :=
  (Rect.unit (s := S8x2x256x4096) (offS b s) S1x1x256x4096.size (offS_half b s)).set
/-- The elements of block `b`. -/
def slot (b : Fin 8) : Finset S8x2x256x4096.Idx :=
  (Rect.unit (s := S8x2x256x4096) (offS b 0) S1x2x256x4096.size (offS_slot b)).set

/-- An element of a half, by its coordinates. -/
theorem mem_half {b : Fin 8} {s : Fin 2} {i : S8x2x256x4096.Idx} :
    i ∈ half b s ↔ (i 0).val = b.val ∧ (i 1).val = s.val := by
  unfold half
  rw [Rect.mem_set_unit]
  have h2 : (i 2).val < 256 := (i 2).isLt
  have h3 : (i 3).val < 4096 := (i 3).isLt
  constructor
  · intro h
    have h0 : b.val ≤ (i 0).val ∧ (i 0).val < b.val + 1 := h 0
    have h1 : s.val ≤ (i 1).val ∧ (i 1).val < s.val + 1 := h 1
    omega
  · rintro ⟨h0, h1⟩ a
    match a with
    | 0 => show b.val ≤ (i 0).val ∧ (i 0).val < b.val + 1; omega
    | 1 => show s.val ≤ (i 1).val ∧ (i 1).val < s.val + 1; omega
    | 2 => show 0 ≤ (i 2).val ∧ (i 2).val < 0 + 256; omega
    | 3 => show 0 ≤ (i 3).val ∧ (i 3).val < 0 + 4096; omega

/-- An element of a block, by its first coordinate. -/
theorem mem_slot {b : Fin 8} {i : S8x2x256x4096.Idx} : i ∈ slot b ↔ (i 0).val = b.val := by
  unfold slot
  rw [Rect.mem_set_unit]
  have h1 : (i 1).val < 2 := (i 1).isLt
  have h2 : (i 2).val < 256 := (i 2).isLt
  have h3 : (i 3).val < 4096 := (i 3).isLt
  constructor
  · intro h
    have h0 : b.val ≤ (i 0).val ∧ (i 0).val < b.val + 1 := h 0
    omega
  · intro h0 a
    match a with
    | 0 => show b.val ≤ (i 0).val ∧ (i 0).val < b.val + 1; omega
    | 1 => show 0 ≤ (i 1).val ∧ (i 1).val < 0 + 2; omega
    | 2 => show 0 ≤ (i 2).val ∧ (i 2).val < 0 + 256; omega
    | 3 => show 0 ≤ (i 3).val ∧ (i 3).val < 0 + 4096; omega

/-- A block is its two halves. -/
theorem slot_eq (b : Fin 8) : slot b = half b 0 ∪ half b 1 := by
  ext i
  have h1 : (i 1).val < 2 := (i 1).isLt
  rw [Finset.mem_union, mem_half, mem_half, mem_slot]
  simp only [Fin.val_zero, Fin.val_one]; omega
/-- The halves of a block have no element in common. -/
theorem half_disj (b : Fin 8) : Disjoint (half b 0) (half b 1) := by
  rw [Finset.disjoint_left]; intro i h h'
  rw [mem_half] at h h'
  have := h.2.symm.trans h'.2; simp at this

/-- The blocks are disjoint and cover the buffer. -/
theorem slot_disj (b b' : Fin 8) (h : b ≠ b') : Disjoint (slot b) (slot b') := by
  rw [Finset.disjoint_left]; intro i hi hi'
  rw [mem_slot] at hi hi'
  exact h (Fin.ext (hi.symm.trans hi'))
/-- The blocks make up the buffer. -/
theorem slot_cover : Finset.univ.biUnion slot = Finset.univ := by
  ext i
  have h0 : (i 0).val < 8 := (i 0).isLt
  simp only [Finset.mem_biUnion, Finset.mem_univ, true_and, iff_true]
  exact ⟨⟨(i 0).val, h0⟩, mem_slot.mpr rfl⟩

/-- The view of a half has that half's elements. -/
theorem sub_set (b : Fin 8) (s : Fin 2) : (sub b s).view.set = half b s := by
  unfold sub half
  exact (View.set_reshape (v := (allx.slice (Rect.unit (s := S8x2x256x4096) (offS b s) S1x1x256x4096.size (offS_half b s)) (fun _ => rfl)).view)
    squeezes_S1x1x256x4096_S256x4096.numel_eq).trans (View.set_slice_whole cc0_scratch0 _)

/-- How much a half's copy counts for on a semaphore: the same for every half. -/
def NB : ℕ := (sub 0 0).view.dmaCredit
/-- A copy of a half counts some bytes, the same for every half. -/
theorem NB_pos : 0 < NB := View.dmaCredit_pos _ (by decide)
theorem NB_eq (b : Fin 8) (s : Fin 2) : (sub b s).view.dmaCredit = NB := rfl

end Cert.KernelIdeal.Talk

end
-- ==== Proof.Ideal.Sched.lean ====
/-
  The protocol of the all-gather, as a schedule of duties on semaphore cells.

  * Barrier of device `c` (3 units, round 0): its left, its right and its opposite each signal one
    unit. With it the signaller hands over those halves of its own gather buffer that `c` will copy
    into, at contents not chosen, and that round 0 of the receive cells that count these copies
    is reached.
  * Receive cell of flow `f`, half `s` (round 0): the one copy that lands on it hands over half `s`
    of block `rblk f c`, holding that device's rows of `x`.
  * Send cell of flow `f`, half `s` (round 0): the copy hands its source back, at the share lent.

  Waits go up in the order: staging and send cells, barrier, own-block landings, landings passed on
  once, landings passed on twice; a device that waits owes only cells further up.
-/
module

public import proofs.«01_k».proof.Proof.Ideal.Geo
public import proofs.«01_k».proof.Proof.Gen.KernelIdeal.Launch
public import Idealize.ShloMosaic.Lib.Rounds
public import Idealize.ShloMosaic.Lib.Pipeline.Regions
public import Idealize.ShloMosaic.Lib.Pipeline.RegionTalk
public import Idealize.ShloMosaic.Lib.Pipeline.Kit

@[expose] public section

noncomputable section

namespace Cert.KernelIdeal.Talk

open Cert.Mesh Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The protocol's own round state: three names for a cell's duties, for the barrier's three payers. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells and contents -/

abbrev barCell (c : Dev nD) : GSem nD τ sig := ((c : Thread nD τ), .reg barS)
abbrev sendCell (f : Fin 7) (s : Fin 2) (c : Dev nD) : GSem nD τ sig := ((c : Thread nD τ), .dma (sendS f s))
abbrev recvCell (f : Fin 7) (s : Fin 2) (c : Dev nD) : GSem nD τ sig := ((c : Thread nD τ), .dma (recvS f s))

/-- An index of the gather buffer, seen from the start of its block. -/
def inBlock (i : S8x2x256x4096.Idx) : S1x2x256x4096.Idx := fun a =>
  ⟨if a = 0 then 0 else (i a).val, by
    match a with
    | 0 => exact Nat.one_pos
    | 1 => exact (i 1).isLt
    | 2 => exact (i 2).isLt
    | 3 => exact (i 3).isLt⟩

variable (X : Dev nD → Vec F S512x4096 .i8)

/-- The gather buffer full: block `b` holds device `b`'s rows of `x`. -/
def AG : S8x2x256x4096.Idx → Elt F .i8 := fun i => k0_pay1 (X (i 0)) (inBlock i)

/-- Device `c`'s gather buffer, its elements `I` at contents `f`, at share `q`. -/
abbrev bufAt (c : Dev nD) (I : Finset S8x2x256x4096.Idx) (q : PosShare TreeShare) (f : S8x2x256x4096.Idx → Elt F .i8) : sProp 𝕄 :=
  ((c : Thread nD τ).loc cc0_scratch0) ↦[I]{q} (f : Buf (Elt F) ((c : Thread nD τ).loc cc0_scratch0))

/-- Half `s` of block `b` on device `c`, at share `q`, holding that block's rows of `x`. -/
abbrev piece (c : Dev nD) (b : Fin 8) (s : Fin 2) (q : PosShare TreeShare) : sProp 𝕄 := bufAt c (half b s) q (AG X)

/-- The share of its source that a flow's copy is lent: a block that several copies read is shared
    among them, and what is left over is for the product. -/
def lent (f : Fin 7) : PosShare TreeShare :=
  match f with
  | 0 => fullShare.left | 1 => fullShare.right.left | 2 => fullShare.right.right
  | 3 => fullShare.left | 4 => fullShare.left | 5 => fullShare.right.left | 6 => fullShare.left

/-! ## The schedule -/

/-- What device `c` needs for its copy on flow `f`, half `s`: the half of the receiver's buffer that it
    writes, and that the receiver's cell is in round 0. -/
def landing (f : Fin 7) (s : Fin 2) (c : Dev nD) : sProp 𝕄 :=
  iprop((∃ fd, bufAt (tgt f c) (half (blk f c) s) fullShare fd) ∗ reached ER (recvCell f s (tgt f c)) 0)

/-- What the `k`-th payer of device `c`'s barrier hands over. -/
def barPay (k : Fin 3) (c : Dev nD) : sProp 𝕄 :=
  match k with
  | 0 => iprop((landing 1 0 c ∗ landing 1 1 c) ∗ (landing 5 0 c ∗ landing 5 1 c) ∗ landing 6 0 c ∗ landing 6 1 c)
  | 1 => iprop((landing 0 0 c ∗ landing 0 1 c) ∗ (landing 3 0 c ∗ landing 3 1 c) ∗ landing 4 0 c ∗ landing 4 1 c)
  | 2 => iprop(landing 2 0 c ∗ landing 2 1 c)

/-- The flow and half that the `n`-th semaphore of a bank counts. -/
def fsOf (n : ℕ) : Fin 7 × Fin 2 := (⟨n / 2 % 7, Nat.mod_lt _ (by decide)⟩, ⟨n % 2, Nat.mod_lt _ (by decide)⟩)

/-- Flow and half are read off the number of a semaphore. -/
theorem fsOf_send : ∀ (f : Fin 7) (s : Fin 2), fsOf ((sendS f s).val - 4) = (f, s) := by decide
theorem fsOf_recv : ∀ (f : Fin 7) (s : Fin 2), fsOf ((recvS f s).val - 18) = (f, s) := by decide
theorem send_lt : ∀ (f : Fin 7) (s : Fin 2), (sendS f s).val < 18 := by decide
theorem recv_ge : ∀ (f : Fin 7) (s : Fin 2), ¬ (recvS f s).val < 18 := by decide
theorem four_le_send : ∀ (f : Fin 7) (s : Fin 2), 4 ≤ (sendS f s).val := by decide
theorem four_le_recv : ∀ (f : Fin 7) (s : Fin 2), 4 ≤ (recvS f s).val := by decide

/-- The duties: three on a barrier, one on each copy's cells, all in round 0. -/
def dutiesOf (sm : SemLoc sig) : Finset (Fin 3) :=
  match sm with
  | .reg q => if q = barS then Finset.univ else ∅
  | .dma q => if 4 ≤ q.val then {0} else ∅

/-- What the duty `k` of a semaphore hands over on device `c`. -/
def payOf (sm : SemLoc sig) (k : Fin 3) (c : Dev nD) : sProp 𝕄 :=
  match sm with
  | .reg _ => barPay k c
  | .dma q =>
    if q.val < 18 then piece X c (blk (fsOf (q.val - 4)).1 c) (fsOf (q.val - 4)).2 (lent (fsOf (q.val - 4)).1)
    else piece X c (rblk (fsOf (q.val - 18)).1 c) (fsOf (q.val - 18)).2 fullShare

/-- How much a duty counts. -/
def amountOf (sm : SemLoc sig) : ℕ := match sm with | .reg _ => 1 | .dma _ => NB

/-- The schedule: one round at each cell. -/
def Rd : Rounds.Schedule (GSem nD τ sig) (Fin 3) 𝕄 where
  duties g r := if r = 0 ∧ g.1.2 = .tc then dutiesOf g.2 else ∅
  unitless _ := False
  amount g _ _ := amountOf g.2
  payload g _ k := payOf X g.2 k g.1.1
  amount_pos g _ _ _ := by
    unfold amountOf
    split
    · exact Nat.one_pos
    · exact NB_pos

/-- What is handed over can be kept in an invariant. -/
instance landing_storable (f : Fin 7) (s : Fin 2) (c : Dev nD) : BI.Storable (upEmb : UEmb _ 𝕄) (landing (F := F) f s c) := by
  unfold landing; infer_instance
instance barPay_storable (k : Fin 3) (c : Dev nD) : BI.Storable (upEmb : UEmb _ 𝕄) (barPay (F := F) k c) := by
  unfold barPay; split <;> infer_instance
instance payload_storable (g : GSem nD τ sig) (r : ℕ) (k : Fin 3) : BI.Storable (upEmb : UEmb _ 𝕄) ((Rd X).payload g r k) := by
  show BI.Storable upEmb (payOf X g.2 k g.1.1)
  unfold payOf
  (repeat' split) <;> infer_instance

section Tables

variable (c : Dev nD) (f : Fin 7) (s : Fin 2) (k : Fin 3)

/-- The duties of each kind of cell, in the first round and later. -/
theorem duties_bar : (Rd X).duties (barCell c) 0 = Finset.univ := by
  dsimp only [Rd]; rw [if_pos ⟨rfl, rfl⟩, dutiesOf, if_pos rfl]
theorem duties_send : (Rd X).duties (sendCell f s c) 0 = {0} := by
  dsimp only [Rd]; rw [if_pos ⟨rfl, rfl⟩]; exact if_pos (four_le_send f s)
theorem duties_recv : (Rd X).duties (recvCell f s c) 0 = {0} := by
  dsimp only [Rd]; rw [if_pos ⟨rfl, rfl⟩]; exact if_pos (four_le_recv f s)
theorem duties_later (g : GSem nD τ sig) : ∀ r, 1 ≤ r → (Rd X).duties g r = ∅ :=
  fun r hr => by dsimp only [Rd]; rw [if_neg (fun h => by omega)]

/-- What a duty counts at each kind of cell. -/
theorem amount_bar : (Rd X).amount (barCell c) 0 k = 1 := rfl
theorem amount_send : (Rd X).amount (sendCell f s c) 0 k = NB := rfl
theorem amount_recv : (Rd X).amount (recvCell f s c) 0 k = NB := rfl

/-- What a round counts at each kind of cell. -/
theorem expect_bar : (Rd X).expect (barCell c) 0 = 3 := by
  unfold Schedule.expect Schedule.amountOf; rw [duties_bar]; rfl
theorem expect_send : (Rd X).expect (sendCell f s c) 0 = NB := by
  unfold Schedule.expect Schedule.amountOf; rw [duties_send, Finset.sum_singleton, amount_send]
theorem expect_recv : (Rd X).expect (recvCell f s c) 0 = NB := by
  unfold Schedule.expect Schedule.amountOf; rw [duties_recv, Finset.sum_singleton, amount_recv]

/-- What a duty hands over at each kind of cell. -/
theorem payload_bar : (Rd X).payload (barCell c) 0 k = barPay k c := rfl
theorem payload_send : (Rd X).payload (sendCell f s c) 0 k = piece X c (blk f c) s (lent f) := by
  dsimp only [Rd, payOf]; rw [if_pos (send_lt f s), fsOf_send]
theorem payload_recv : (Rd X).payload (recvCell f s c) 0 k = piece X c (rblk f c) s fullShare := by
  dsimp only [Rd, payOf]; rw [if_neg (recv_ge f s), fsOf_recv]

/-- What a whole round hands over at each kind of cell. -/
theorem rest_bar : bigSep ((Rd X).duties (barCell c) 0 \ ∅) (fun k => (Rd X).payload (barCell c) 0 k)
    = iprop(barPay 0 c ∗ barPay 1 c ∗ barPay 2 c) := by
  rw [Finset.sdiff_empty, duties_bar]
  exact bigSep_univ_eq_bigSepL [(0 : Fin 3), 1, 2] (by decide) (by decide) _
theorem rest_send : bigSep ((Rd X).duties (sendCell f s c) 0 \ ∅) (fun k => (Rd X).payload (sendCell f s c) 0 k)
    = piece X c (blk f c) s (lent f) := by
  rw [Finset.sdiff_empty, duties_send, bigSep_singleton, payload_send]
theorem rest_recv : bigSep ((Rd X).duties (recvCell f s c) 0 \ ∅) (fun k => (Rd X).payload (recvCell f s c) 0 k)
    = piece X c (rblk f c) s fullShare := by
  rw [Finset.sdiff_empty, duties_recv, bigSep_singleton, payload_recv]

end Tables

/-! ## What a device owes, and the order of waits -/

/-- The credit of the copies `l` of device `c` still to be started. -/
def owed (l : List (Fin 7 × Fin 2)) (c : Dev nD) : CellTallies nD τ sig Unit :=
  l.foldr (fun p O => O + tallyAt (recvCell p.1 p.2 (tgt p.1 c)) () NB) 0

/-- What device `c` owes at the start: its fourteen copies and its three signals. -/
def O₀ (c : Dev nD) : CellTallies nD τ sig Unit :=
  owed sends c + tallyAt (barCell (anti c)) () 1 + tallyAt (barCell (right c)) () 1 + tallyAt (barCell (left c)) () 1

def L (g : GSem nD τ sig) : Finset Unit := if g.1.2 = .tc then {()} else ∅
def level (sm : SemLoc sig) : ℕ :=
  match sm with
  | .reg _ => 1
  | .dma q => if q.val < 18 then 0 else depth (fsOf (q.val - 18)).1
def lv (g : GSem nD τ sig) (_ : Unit) : ℕ := level g.2

/-- Only the TensorCores' semaphores have a level. -/
theorem L_of_ne (g : GSem nD τ sig) (h : g.1.2 ≠ .tc) : L g = ∅ := if_neg h
theorem L_tc (c : Dev nD) (sm : SemLoc sig) : L ((c : Thread nD τ), sm) = {()} := if_pos rfl
/-- The level of a receive semaphore. -/
theorem level_recv (f : Fin 7) (s : Fin 2) : level (.dma (recvS f s)) = depth f := by
  dsimp only [level]; rw [if_neg (recv_ge f s), fsOf_recv]

/-- A tally is positive at its own cell only. -/
theorem tallyAt_pos {g g' : GSem nD τ sig} {u u' : Unit} {n : ℕ} (h : 0 < tallyAt g' u' n g u) : g = g' := by
  rw [tallyAt_apply] at h
  by_contra hne
  rw [if_neg (fun hh => hne hh.1)] at h
  exact absurd h (Nat.lt_irrefl 0)

/-- What is owed is owed to the receive cell of one of the copies. -/
theorem owed_pos (l : List (Fin 7 × Fin 2)) (c : Dev nD) {g : GSem nD τ sig} {u : Unit} (h : 0 < owed l c g u) :
    ∃ p ∈ l, g = recvCell p.1 p.2 (tgt p.1 c) := by
  induction l with
  | nil => exact absurd h (Nat.lt_irrefl 0)
  | cons p l ih =>
    have h' : 0 < (owed l c + tallyAt (recvCell p.1 p.2 (tgt p.1 c)) () NB) g u := h
    rw [Pi.add_apply, Finsupp.add_apply] at h'
    rcases Nat.add_pos_iff_pos_or_pos.mp h' with h' | h'
    · obtain ⟨q, hq, e⟩ := ih h'
      exact ⟨q, List.mem_cons_of_mem _ hq, e⟩
    · exact ⟨p, List.mem_cons_self, tallyAt_pos h'⟩

/-- A device that waits on a cell below everything that it still owes may wait. -/
theorem mayWait (l : List (Fin 7 × Fin 2)) (c : Dev nD) (sm : SemLoc sig) (n : ℕ) (hsm : level sm = n) (hl : ∀ p ∈ l, n < depth p.1) :
    (levAts L lv : sProp 𝕄) ⊢ MayWait (c : Thread nD τ) sm () (owed l c) :=
  MayOwe.of_cut (L := L) (lev := lv) n (fun p hp => by rw [Finset.mem_singleton.mp hp, L_tc]; exact Finset.mem_singleton_self _)
    (fun g u hg => by
      obtain ⟨p, -, rfl⟩ := owed_pos l c hg
      rw [L_tc]; exact Finset.mem_singleton_self _)
    (fun p hp => by rw [Finset.mem_singleton.mp hp]; show level sm ≤ n; exact hsm.le)
    (fun g u hg => by
      obtain ⟨p, hp, rfl⟩ := owed_pos l c hg
      show n < level (.dma (recvS p.1 p.2))
      rw [level_recv]; exact hl p hp)

/-- Device `c` owes `O`, whatever waits it has on record. -/
abbrev owes' (c : Dev nD) (O : CellTallies nD τ sig Unit) : sProp 𝕄 := iprop(∃ W, owes (c : Thread nD τ) O W)

abbrev 𝒱₀ : Variants := Variants.none

end Cert.KernelIdeal.Talk

end
-- ==== Proof.Ideal.Step.lean ====
/-
  One rule for each kind of step of the protocol: a signal, the wait on the barrier, a copy, the wait
  for a landing, the wait for a copy's source. Each is stated once, for any flow `f`, half `s` and
  device `c`.
-/
module

public import proofs.«01_k».proof.Proof.Ideal.Sched

@[expose] public section

noncomputable section

namespace Cert.KernelIdeal.Talk

open Cert.Mesh Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` runs `p` and ends with `Q`. -/
abbrev WPc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (X : Dev nD → Vec F S512x4096 .i8)

/-! ## The cells and their invariants -/

/-- A device's own semaphores: the send bank and the receive bank, by flow and half. -/
abbrev osem (x : Fin 2 × Fin 7 × Fin 2) : SemLoc sig :=
  match x.1 with | 0 => .dma (sendS x.2.1 x.2.2) | 1 => .dma (recvS x.2.1 x.2.2)

/-- The copies' semaphores are different from one another. -/
theorem osem_inj : Function.Injective osem := by decide +kernel

/-- The cells by device, and by device and semaphore. -/
def barEmb : Dev nD ↪ GSem nD τ sig := ⟨fun c => barCell c, fun _ _ h => congrArg (fun g : GSem nD τ sig => g.1.1) h⟩
def copyEmb : Dev nD × (Fin 2 × Fin 7 × Fin 2) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the cells of the copies. -/
def barCells : Finset (GSem nD τ sig) := Finset.univ.map barEmb
/-- The copies' cells. -/
def copyCells : Finset (GSem nD τ sig) := Finset.univ.map copyEmb

/-- Each kind of cell is among all of them. -/
theorem bar_mem (c : Dev nD) : barCell c ∈ barCells ∪ copyCells :=
  Finset.mem_union_left _ (Finset.mem_map_of_mem barEmb (Finset.mem_univ c))
theorem send_mem (f : Fin 7) (s : Fin 2) (c : Dev nD) : sendCell f s c ∈ barCells ∪ copyCells :=
  Finset.mem_union_right _ (Finset.mem_map_of_mem copyEmb (Finset.mem_univ (c, ((0 : Fin 2), f, s))))
theorem recv_mem (f : Fin 7) (s : Fin 2) (c : Dev nD) : recvCell f s c ∈ barCells ∪ copyCells :=
  Finset.mem_union_right _ (Finset.mem_map_of_mem copyEmb (Finset.mem_univ (c, ((1 : Fin 2), f, s))))

/-- What every device may consult at any time: the invariants of all cells, at the names `K`, and the
    levels of the waits. -/
def ctx (K : GSem nD τ sig → ℕ) : sProp 𝕄 :=
  iprop((bigSep (barCells ∪ copyCells) fun g => cellInv ER (Rd X) (K g) g) ∗ levAts L lv)

/-- The context may be used any number of times. -/
instance ctx_persistent (K : GSem nD τ sig → ℕ) : BI.Persistent (ctx X K) := by unfold ctx; infer_instance

/-- The invariant of one cell, and the levels, out of the context. -/
theorem ctx_inv (K : GSem nD τ sig → ℕ) {g : GSem nD τ sig} (hg : g ∈ barCells ∪ copyCells) :
    ctx X K ⊢ cellInv ER (Rd X) (K g) g := by
  unfold ctx
  exact sep_elim_left.trans (bigSep_elim hg)
theorem ctx_lev (K : GSem nD τ sig → ℕ) : ctx X K ⊢ levAts L lv := by
  unfold ctx
  iintro ⟨-, H⟩; iexact H

/-! ## What a device holds for one copy -/

/-- To start the copy on flow `f`, half `s`. -/
def tx (f : Fin 7) (s : Fin 2) (c : Dev nD) : sProp 𝕄 :=
  iprop(atPos ER (sendCell f s c) 0 ∅ 0 ∗ reached ER (sendCell f s c) 0
    ∗ dutyTok ER (sendCell f s c) 0 0 ∗ dutyTok ER (recvCell f s (tgt f c)) 0 0)
/-- To wait for its source, once it is started. -/
def wx (f : Fin 7) (s : Fin 2) (c : Dev nD) : sProp 𝕄 :=
  iprop(atPos ER (sendCell f s c) 0 ∅ 0 ∗ cred (tallyAt (sendCell f s c) () NB))
/-- To wait for the landing on flow `f`, half `s`. -/
def rx (f : Fin 7) (s : Fin 2) (c : Dev nD) : sProp 𝕄 :=
  iprop(atPos ER (recvCell f s c) 0 ∅ 0 ∗ cred (tallyAt (recvCell f s c) () NB))

/-- A half of the gather buffer that takes in the same half of another holds the same rows. -/
theorem landed_eq (b : Fin 8) (s : Fin 2) (fd : S8x2x256x4096.Idx → Elt F .i8) (i : S8x2x256x4096.Idx) (hi : i ∈ half b s) :
    (sub b s).view.write (Elt F) fd ((sub b s).view.read (Elt F) (AG X)) Finset.univ i = AG X i := by
  rw [← sub_set] at hi
  obtain ⟨z, -, rfl⟩ := Finset.mem_map.mp hi
  exact View.write_emb_of_mem (v := (sub b s).view) fd _ (Finset.mem_univ z)

/-- A cell whose one round is over gives its counter back, at zero. -/
theorem close_cell (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id (duties_later X g)

variable (K : GSem nD τ sig → ℕ) (c : Dev nD) {α : Type}

/-! ## The steps -/

/-- A SIGNAL to the barrier of the device that this one is the `k`-th payer of: it hands that device's
    share of the own buffer over. -/
theorem step_signal (k : Fin 3) {d e : Dev nD} (hd : d = e) {n : ℕ} (hn : n = 1)
    (O : CellTallies nD τ sig Unit) {p : PUnit → Prog (TpuEff nD τ sig (Elt F) Λ₀ .tc) α} {Q : α → sProp 𝕄} :
    iprop(ctx X K ∗ reached ER (barCell e) 0 ∗ dutyTok ER (barCell e) 0 k ∗ barPay k e
        ∗ owes' c (O + tallyAt (barCell e) () 1))
      ⊢ iprop((owes' c O -∗ WPc c (p ⟨⟩) Q) -∗ WPc c (.op (.semSignal (Dev.tc d) barS n) p) Q) := by
  subst hd hn
  iintro ⟨#HC, #HR, Ht, Hp, ⟨%W, HO⟩⟩ Hk
  iapply (Rounds.wp_signal 𝒱₀ ER (Rd X) (c : Thread nD τ) none (dst := (d : Thread nD τ)) (sem := barS) (r := 0) (d := k)
      (κ := K (barCell d)) (by rw [duties_bar]; exact Finset.mem_univ _) (amount_bar X d k) () O rfl) $$ [HO Ht Hp]
  · isplitr; · iapply (ctx_inv X K (bar_mem d)); iexact HC
    isplitl [HO]; · iexact HO
    isplitl [Ht]; · iexact Ht
    isplitl [Hp]; · rw [payload_bar]; iexact Hp
    iexact HR
  iintro HO
  iapply Hk; iexists _; iexact HO

/-- The WAIT on the own barrier: all that this device's copies write into is now its own. -/
theorem step_barrier (l : List (Fin 7 × Fin 2)) (hl : ∀ p ∈ l, 1 < depth p.1) {n : ℕ} (hn : n = 3)
    {p : PUnit → Prog (TpuEff nD τ sig (Elt F) Λ₀ .tc) α} {Q : α → sProp 𝕄} :
    iprop(ctx X K ∗ atPos ER (barCell c) 0 ∅ 0 ∗ cred (tallyAt (barCell c) () 3) ∗ owes' c (owed l c))
      ⊢ iprop(((semVal (barCell c) 0 ∗ barPay 0 c ∗ barPay 1 c ∗ barPay 2 c ∗ owes' c (owed l c)) -∗ WPc c (p ⟨⟩) Q)
        -∗ WPc c (.op (.semWait barS n) p) Q) := by
  subst hn
  iintro ⟨#HC, Ha, Hc, ⟨%W, HO⟩⟩ Hk
  iapply (Rounds.wp_wait_rest_token 𝒱₀ ER (Rd X) (c : Thread nD τ) none (κ := K (barCell c))
      (wpE_semWait_eq 𝒱₀ (c : Thread nD τ) none Set.univ) (Set.mem_univ _) () (O := owed l c) (W := W) (R := 0) (m := 0) (T := ∅)
      ((Nat.zero_add 3).trans (expect_bar X c).symm)) $$ [Ha Hc HO]
  · isplitr; · iapply (ctx_inv X K (bar_mem c)); iexact HC
    isplitl [Hc]; · iexact Hc
    isplitl [HO]; · iexact HO
    isplitr; · iapply (mayWait l c (.reg barS) 1 rfl hl); iapply (ctx_lev X K); iexact HC
    iexact Ha
  iintro ⟨HO, Ha, -, Hpay⟩
  ihave Hp := (Entails.of_eq (rest_bar X c)) $$ Hpay
  icases Hp with ⟨H0, H1, H2⟩
  iapply (fupd_wp _ _ _ _)
  imod (close_cell X (K (barCell c)) (barCell c)) $$ [Ha] with Hz
  · isplitr; · iapply (ctx_inv X K (bar_mem c)); iexact HC
    iexact Ha
  imodintro
  iapply Hk
  isplitl [Hz]; · iexact Hz
  isplitl [H0]; · iexact H0
  isplitl [H1]; · iexact H1
  isplitl [H2]; · iexact H2
  iexists _; iexact HO

/-- A COPY: half `s` of block `blk f c`, lent at the flow's share, to the same half on `tgt f c`. -/
theorem step_send (f : Fin 7) (s : Fin 2) (l : List (Fin 7 × Fin 2)) {vs vd : Memref sig .tc .vmem S256x4096 .i8} {sS sR : DmaSem sig}
    {d : Dev nD} {b : Fin 8} {q : PosShare TreeShare} (hb : blk f c = b) (hq : lent f = q)
    (hvs : vs = sub b s) (hvd : vd = sub b s) (hS : sS = sendS f s) (hR : sR = recvS f s) (hd : d = tgt f c)
    {hsc : vd.view.ref.isScScratch = false} {h₁ : vs.view.WordExact} {h₂ : vd.view.WordExact}
    {h₃ : DmaTarget.Typed .vmem (.dma sR) (.remote (Dev.tc d : Thread nD τ) vd (.dma sS) hsc)}
    {p : PUnit → Prog (TpuEff nD τ sig (Elt F) Λ₀ .tc) α} {Q : α → sProp 𝕄} :
    iprop(ctx X K ∗ tx f s c ∗ landing f s c ∗ piece X c b s q ∗ owes' c (owed ((f, s) :: l) c))
      ⊢ iprop(((wx f s c ∗ owes' c (owed l c)) -∗ WPc c (p ⟨⟩) Q)
        -∗ WPc c (.op (.enqueueDma vs (.remote (Dev.tc d : Thread nD τ) vd (.dma sS) hsc) (.dma sR) h₁ h₂ h₃) p) Q) := by
  subst hb hq hvs hvd hS hR hd
  unfold tx landing wx
  iintro ⟨#HC, ⟨Ha, #HrS, HtS, HtR⟩, ⟨⟨%fd, Hd⟩, #HrR⟩, Hs, ⟨%W, HO⟩⟩ Hk
  iapply (Rounds.wp_send_pointsTo 𝒱₀ ER (Rd X) (c : Thread nD τ) none (c' := (tgt f c : Thread nD τ)) (src := sub (blk f c) s) (dst := sub (blk f c) s)
      (sS := .dma (sendS f s)) (sem := .dma (recvS f s)) (q := lent f) (fs := AG X) (fd := fd) (κ₁ := K (sendCell f s c)) (κ₂ := K (recvCell f s (tgt f c)))
      (r₁ := 0) (r₂ := 0) (d₁ := 0) (d₂ := 0)
      (by rw [duties_send]; exact Finset.mem_singleton_self _) (by rw [duties_recv]; exact Finset.mem_singleton_self _)
      () () NB (NB_eq _ _) (amount_send X c f s 0) (amount_recv X (tgt f c) f s 0) (owed l c) rfl (W := W)
      (by rw [payload_send, sub_set]; exact Entails.rfl)
      (by rw [payload_recv, rblk_tgt, sub_set]
          exact Entails.of_eq (pointsTo_congr fun i hi => landed_eq X (blk f c) s fd i hi))) $$ [Hs Hd HO HtS HtR]
  · isplitr; · iapply (ctx_inv X K (send_mem f s c)); iexact HC
    isplitr; · iapply (ctx_inv X K (recv_mem f s (tgt f c))); iexact HC
    isplitl [Hs]; · rw [sub_set]; iexact Hs
    isplitl [Hd]; · rw [sub_set]; iexact Hd
    isplitl [HO]; · iexact HO
    isplitl [HtS]; · iexact HtS
    isplitr; · iexact HrS
    isplitl [HtR]; · iexact HtR
    iexact HrR
  iintro ⟨Hc, HO⟩
  iapply Hk
  isplitl [Ha Hc]
  · isplitl [Ha] <;> iassumption
  iexists _; iexact HO

/-- The WAIT for the landing on flow `f`, half `s`: the half comes with the sender's rows. -/
theorem step_recv (f : Fin 7) (s : Fin 2) (l : List (Fin 7 × Fin 2)) (hl : ∀ p ∈ l, depth f < depth p.1)
    {vs vd : Memref sig .tc .vmem S256x4096 .i8} {sR : DmaSem sig}
    (hR : sR = recvS f s) {b : Fin 8} (hb : rblk f c = b)
    {h₁ : vs.view.WordExact} {h₂ : vd.view.WordExact} (hN : vd.view.dmaCredit = NB)
    {p : PUnit → Prog (TpuEff nD τ sig (Elt F) Λ₀ .tc) α} {Q : α → sProp 𝕄} :
    iprop(ctx X K ∗ rx f s c ∗ owes' c (owed l c))
      ⊢ iprop(((semVal (recvCell f s c) 0 ∗ piece X c b s fullShare ∗ owes' c (owed l c)) -∗ WPc c (p ⟨⟩) Q)
        -∗ WPc c (.op (.waitDma2 sR vs vd h₁ h₂) p) Q) := by
  subst hR hb
  unfold rx
  iintro ⟨#HC, ⟨Ha, Hc⟩, ⟨%W, HO⟩⟩ Hk
  iapply (Rounds.wp_wait_rest_token 𝒱₀ ER (Rd X) (c : Thread nD τ) none (κ := K (recvCell f s c))
      (wpE_waitDma2_eq 𝒱₀ (c : Thread nD τ) none Set.univ) (Set.mem_univ _) () (O := owed l c) (W := W) (R := 0) (m := 0) (T := ∅)
      (by rw [Nat.zero_add, hN, expect_recv])) $$ [Ha Hc HO]
  · isplitr; · iapply (ctx_inv X K (recv_mem f s c)); iexact HC
    isplitl [Hc]; · rw [hN]; iexact Hc
    isplitl [HO]; · iexact HO
    isplitr; · iapply (mayWait l c (.dma (recvS f s)) (depth f) (level_recv f s) hl); iapply (ctx_lev X K); iexact HC
    iexact Ha
  iintro ⟨HO, Ha, -, Hpay⟩
  ihave Hp := (Entails.of_eq (rest_recv X c f s)) $$ Hpay
  iapply (fupd_wp _ _ _ _)
  imod (close_cell X (K (recvCell f s c)) (recvCell f s c)) $$ [Ha] with Hz
  · isplitr; · iapply (ctx_inv X K (recv_mem f s c)); iexact HC
    iexact Ha
  imodintro
  iapply Hk
  isplitl [Hz]; · iexact Hz
  isplitl [Hp]; · iexact Hp
  iexists _; iexact HO

/-- The WAIT for a copy's source, when nothing is owed any more: the lent share comes back. -/
theorem step_sent (f : Fin 7) (s : Fin 2) {vs vd : Memref sig .tc .vmem S256x4096 .i8} {sS : DmaSem sig}
    (hS : sS = sendS f s) {b : Fin 8} {q : PosShare TreeShare} (hb : blk f c = b) (hq : lent f = q)
    {h₁ : vs.view.WordExact} {h₂ : vd.view.WordExact} (hN : vd.view.dmaCredit = NB)
    {p : PUnit → Prog (TpuEff nD τ sig (Elt F) Λ₀ .tc) α} {Q : α → sProp 𝕄} :
    iprop(ctx X K ∗ wx f s c ∗ owes' c 0)
      ⊢ iprop(((semVal (sendCell f s c) 0 ∗ piece X c b s q ∗ owes' c 0) -∗ WPc c (p ⟨⟩) Q)
        -∗ WPc c (.op (.waitDma2 sS vs vd h₁ h₂) p) Q) := by
  subst hS hb hq
  unfold wx
  iintro ⟨#HC, ⟨Ha, Hc⟩, ⟨%W, HO⟩⟩ Hk
  iapply (Rounds.wp_wait_rest_token 𝒱₀ ER (Rd X) (c : Thread nD τ) none (κ := K (sendCell f s c))
      (wpE_waitDma2_eq 𝒱₀ (c : Thread nD τ) none Set.univ) (Set.mem_univ _) () (O := 0) (W := W) (R := 0) (m := 0) (T := ∅)
      (by rw [Nat.zero_add, hN, expect_send])) $$ [Ha Hc HO]
  · isplitr; · iapply (ctx_inv X K (send_mem f s c)); iexact HC
    isplitl [Hc]; · rw [hN]; iexact Hc
    isplitl [HO]; · iexact HO
    isplitr; · rw [MayWait_zero]; iempintro
    iexact Ha
  iintro ⟨HO, Ha, -, Hpay⟩
  ihave Hp := (Entails.of_eq (rest_send X c f s)) $$ Hpay
  iapply (fupd_wp _ _ _ _)
  imod (close_cell X (K (sendCell f s c)) (sendCell f s c)) $$ [Ha] with Hz
  · isplitr; · iapply (ctx_inv X K (send_mem f s c)); iexact HC
    iexact Ha
  imodintro
  iapply Hk
  isplitl [Hz]; · iexact Hz
  isplitl [Hp]; · iexact Hp
  iexists _; iexact HO

end Cert.KernelIdeal.Talk

end
-- ==== Proof.Ideal.Mem.lean ====
/-
  The loads and stores: a load of a block of the gather buffer gives the rows of `x` that the block
  stands for, and a store of a product fills in the block's rows of the result.
-/
module

public import proofs.«01_k».proof.Proof.Ideal.Step
public import Idealize.ShloMosaic.Lib.Pipeline.Value

@[expose] public section

noncomputable section

namespace Cert.KernelIdeal.Talk

open Cert.Mesh Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (X : Dev nD → Vec F S512x4096 .i8) (Wt : Dev nD → Vec F S4096x1024 .i8) (Sc : Dev nD → Vec F S1x1 .f32)

/-! ## The staged operands -/

/-- Device `c`'s staged rows of `x`, block of `w`, and scale. -/
abbrev inX (c : Dev nD) : sProp 𝕄 := ((c : Thread nD τ).loc cc0_stg0_0) ↦{fullShare} (X c : Buf (Elt F) ((c : Thread nD τ).loc cc0_stg0_0))
abbrev inW (c : Dev nD) : sProp 𝕄 := ((c : Thread nD τ).loc cc0_stg1_0) ↦{fullShare} (Wt c : Buf (Elt F) ((c : Thread nD τ).loc cc0_stg1_0))
abbrev inS (c : Dev nD) : sProp 𝕄 := ((c : Thread nD τ).loc cc0_stg2_0) ↦{fullShare} (Sc c : Buf (Elt F) ((c : Thread nD τ).loc cc0_stg2_0))

theorem zero2 : (![0, 0] : Fin 2 → ℕ) = fun _ => 0 := by decide

variable (c : Dev nD) {α : Type}

/-- A load of all of the staged rows of `x`. -/
theorem load_x {inb} {hl : (Memref.whole cc0_stg0_0 : Memref sig .tc .vmem S512x4096 .i8).view.LoadsAt (Rect.unit (s := S512x4096) ![0, 0] S512x4096.size inb).toLoadRect}
    {k : Vec F S512x4096 .i8 → Prog (TpuEff nD τ sig (Elt F) Λ₀ .tc) α} {Q : α → sProp 𝕄} :
    inX X c ⊢ iprop((inX X c -∗ WPc c (k (X c)) Q)
      -∗ WPc c (.op (.load (Memref.whole cc0_stg0_0 : Memref sig .tc .vmem S512x4096 .i8) (Rect.unit (s := S512x4096) ![0, 0] S512x4096.size inb).toLoadRect hl) k) Q) := by
  have h := wp_load_rect (defs := defs₀ (F := F)) 𝒱₀ (c : Thread nD τ) none (Γ := []) Set.univ (Q := Q) (m := (Memref.whole cc0_stg0_0 : Memref sig .tc .vmem S512x4096 .i8))
    (r := Rect.unit (s := S512x4096) ![0, 0] S512x4096.size inb) (hl := hl) (k := k) (S := Finset.univ) (q := fullShare) (f := X c) (Finset.subset_univ _)
  rw [show ((Memref.whole cc0_stg0_0 : Memref sig .tc .vmem S512x4096 .i8).access (Rect.unit (s := S512x4096) ![0, 0] S512x4096.size inb)).read (Elt F) (X c) = X c
    from Memref.readAt_unit_zero (Elt F) cc0_stg0_0 zero2 inb (X c)] at h
  exact h

/-- A load of all of the staged block of `w`. -/
theorem load_w {inb} {hl : (Memref.whole cc0_stg1_0 : Memref sig .tc .vmem S4096x1024 .i8).view.LoadsAt (Rect.unit (s := S4096x1024) ![0, 0] S4096x1024.size inb).toLoadRect}
    {k : Vec F S4096x1024 .i8 → Prog (TpuEff nD τ sig (Elt F) Λ₀ .tc) α} {Q : α → sProp 𝕄} :
    inW Wt c ⊢ iprop((inW Wt c -∗ WPc c (k (Wt c)) Q)
      -∗ WPc c (.op (.load (Memref.whole cc0_stg1_0 : Memref sig .tc .vmem S4096x1024 .i8) (Rect.unit (s := S4096x1024) ![0, 0] S4096x1024.size inb).toLoadRect hl) k) Q) := by
  have h := wp_load_rect (defs := defs₀ (F := F)) 𝒱₀ (c : Thread nD τ) none (Γ := []) Set.univ (Q := Q) (m := (Memref.whole cc0_stg1_0 : Memref sig .tc .vmem S4096x1024 .i8))
    (r := Rect.unit (s := S4096x1024) ![0, 0] S4096x1024.size inb) (hl := hl) (k := k) (S := Finset.univ) (q := fullShare) (f := Wt c) (Finset.subset_univ _)
  rw [show ((Memref.whole cc0_stg1_0 : Memref sig .tc .vmem S4096x1024 .i8).access (Rect.unit (s := S4096x1024) ![0, 0] S4096x1024.size inb)).read (Elt F) (Wt c) = Wt c
    from Memref.readAt_unit_zero (Elt F) cc0_stg1_0 zero2 inb (Wt c)] at h
  exact h

/-- A load of the staged scale. -/
theorem load_s {inb} {hl : (Memref.whole cc0_stg2_0 : Memref sig .tc .smem S1x1 .f32).view.LoadsAt (Rect.unit (s := S1x1) ![0, 0] S1x1.size inb).toLoadRect}
    {k : Vec F S1x1 .f32 → Prog (TpuEff nD τ sig (Elt F) Λ₀ .tc) α} {Q : α → sProp 𝕄} :
    inS Sc c ⊢ iprop((inS Sc c -∗ WPc c (k (Sc c)) Q)
      -∗ WPc c (.op (.load (Memref.whole cc0_stg2_0 : Memref sig .tc .smem S1x1 .f32) (Rect.unit (s := S1x1) ![0, 0] S1x1.size inb).toLoadRect hl) k) Q) := by
  have h := wp_load_rect (defs := defs₀ (F := F)) 𝒱₀ (c : Thread nD τ) none (Γ := []) Set.univ (Q := Q) (m := (Memref.whole cc0_stg2_0 : Memref sig .tc .smem S1x1 .f32))
    (r := Rect.unit (s := S1x1) ![0, 0] S1x1.size inb) (hl := hl) (k := k) (S := Finset.univ) (q := fullShare) (f := Sc c) (Finset.subset_univ _)
  rw [show ((Memref.whole cc0_stg2_0 : Memref sig .tc .smem S1x1 .f32).access (Rect.unit (s := S1x1) ![0, 0] S1x1.size inb)).read (Elt F) (Sc c) = Sc c
    from Memref.readAt_unit_zero (Elt F) cc0_stg2_0 zero2 inb (Sc c)] at h
  exact h

/-! ## Blocks of the gather buffer -/

/-- Splitting and joining shares of a half. -/
theorem piece_split (b : Fin 8) (s : Fin 2) (q : PosShare TreeShare) :
    piece X c b s q ⊢ iprop(piece X c b s q.left ∗ piece X c b s q.right) :=
  (pointsTo_share (PosShare.mem_left_op_right q)).1
/-- Two shares of a half make the half again. -/
theorem piece_join (b : Fin 8) (s : Fin 2) (q : PosShare TreeShare) :
    iprop(piece X c b s q.left ∗ piece X c b s q.right) ⊢ piece X c b s q :=
  (pointsTo_share (PosShare.mem_left_op_right q)).2

/-- A block at any contents, as two halves at any contents. -/
theorem slot_split (b : Fin 8) (q : PosShare TreeShare) (f : S8x2x256x4096.Idx → Elt F .i8) :
    bufAt c (slot b) q f = iprop(bufAt c (half b 0) q f ∗ bufAt c (half b 1) q f) := by
  rw [slot_eq]
  exact (pointsTo_union (half_disj b)).1.antisymm (pointsTo_union (half_disj b)).2

/-- The elements that a load or a store of a block touches are the block's. -/
theorem slot_access {off : Fin 4 → ℕ} {inb} (b : Fin 8) (h : off = offS b 0) :
    (allx.access (Rect.unit (s := S8x2x256x4096) off S1x2x256x4096.size inb)).set = slot b := by
  subst h
  exact View.set_slice_whole _ _

/-- What a block of the full gather buffer reads: the rows of `x` that it stands for. -/
theorem slot_read (b : Fin 8) (inb : ∀ a, offS b 0 a + S1x2x256x4096.size a ≤ S8x2x256x4096.size a) :
    (allx.access (Rect.unit (s := S8x2x256x4096) (offS b 0) S1x2x256x4096.size inb)).read (Elt F) (AG X) = k0_pay1 (X b) := by
  funext j
  show AG X ((Rect.unit (s := S8x2x256x4096) (offS b 0) S1x2x256x4096.size inb).emb j) = _
  have h0 : (Rect.unit (s := S8x2x256x4096) (offS b 0) S1x2x256x4096.size inb).emb j 0 = b := by
    apply Fin.ext
    rw [Rect.emb_apply]
    have h1 : (j 0).val < 1 := (j 0).isLt
    have : (j 0).val = 0 := by omega
    show b.val + 1 * (j 0).val = b.val
    omega
  have h1 : inBlock ((Rect.unit (s := S8x2x256x4096) (offS b 0) S1x2x256x4096.size inb).emb j) = j := by
    funext a
    apply Fin.ext
    have h1 : (j 0).val < 1 := (j 0).isLt
    have : (j 0).val = 0 := by omega
    unfold inBlock
    match a with
    | 0 => exact this.symm
    | 1 => show 0 + 1 * (j 1).val = (j 1).val; omega
    | 2 => show 0 + 1 * (j 2).val = (j 2).val; omega
    | 3 => show 0 + 1 * (j 3).val = (j 3).val; omega
  unfold AG
  rw [h0, h1]

/-- A load of block `b`, both halves held at any share. -/
theorem load_slot (b : Fin 8) (q : PosShare TreeShare) {off : Fin 4 → ℕ} (hoff : off = offS b 0) {inb}
    {hl : allx.view.LoadsAt (Rect.unit (s := S8x2x256x4096) off S1x2x256x4096.size inb).toLoadRect}
    {k : Vec F S1x2x256x4096 .i8 → Prog (TpuEff nD τ sig (Elt F) Λ₀ .tc) α} {Q : α → sProp 𝕄} :
    iprop(piece X c b 0 q ∗ piece X c b 1 q)
      ⊢ iprop(((piece X c b 0 q ∗ piece X c b 1 q) -∗ WPc c (k (k0_pay1 (X b))) Q)
        -∗ WPc c (.op (.load allx (Rect.unit (s := S8x2x256x4096) off S1x2x256x4096.size inb).toLoadRect hl) k) Q) := by
  subst hoff
  have h := wp_load_rect (defs := defs₀ (F := F)) 𝒱₀ (c : Thread nD τ) none (Γ := []) Set.univ (Q := Q) (m := allx)
    (r := Rect.unit (s := S8x2x256x4096) (offS b 0) S1x2x256x4096.size inb) (hl := hl) (k := k) (S := slot b) (q := q) (f := AG X)
    (by rw [slot_access b rfl])
  rw [slot_read] at h
  have e := slot_split c b q (AG X)
  unfold piece
  rw [← e]
  exact h

/-- A load of block `b` at any contents, whose value goes unused. -/
theorem load_any (b : Fin 8) (f : S8x2x256x4096.Idx → Elt F .i8) {off : Fin 4 → ℕ} (hoff : off = offS b 0) {inb}
    {hl : allx.view.LoadsAt (Rect.unit (s := S8x2x256x4096) off S1x2x256x4096.size inb).toLoadRect}
    {p : Prog (TpuEff nD τ sig (Elt F) Λ₀ .tc) α} {Q : α → sProp 𝕄} :
    bufAt c (slot b) fullShare f
      ⊢ iprop((bufAt c (slot b) fullShare f -∗ WPc c p Q)
        -∗ WPc c (.op (.load allx (Rect.unit (s := S8x2x256x4096) off S1x2x256x4096.size inb).toLoadRect hl) fun _ => p) Q) :=
  wp_load_rect (defs := defs₀ (F := F)) 𝒱₀ (c : Thread nD τ) none (Γ := []) Set.univ (Q := Q) (m := allx)
    (r := Rect.unit (s := S8x2x256x4096) off S1x2x256x4096.size inb) (hl := hl) (k := fun _ => p) (S := slot b) (q := fullShare) (f := f)
    (by rw [slot_access b hoff])

/-- The store of the own rows: block `c` holds them. -/
theorem store_own (f : S8x2x256x4096.Idx → Elt F .i8) {off : Fin 4 → ℕ} (hoff : off = offS c 0) {inb}
    {hx : (allx.access (Rect.unit (s := S8x2x256x4096) off S1x2x256x4096.size inb)).Stores Finset.univ} {hm}
    {p : PUnit → Prog (TpuEff nD τ sig (Elt F) Λ₀ .tc) α} {Q : α → sProp 𝕄} :
    bufAt c (slot c) fullShare f
      ⊢ iprop(((piece X c c 0 fullShare ∗ piece X c c 1 fullShare) -∗ WPc c (p ⟨⟩) Q)
        -∗ WPc c (.op (.store allx (Rect.unit (s := S8x2x256x4096) off S1x2x256x4096.size inb) (k0_pay1 (X c)) Finset.univ hx hm) p) Q) := by
  subst hoff
  have h := wp_store (defs := defs₀ (F := F)) 𝒱₀ (c : Thread nD τ) none (Γ := []) Set.univ (Q := Q) (m := allx)
    (r := Rect.unit (s := S8x2x256x4096) (offS c 0) S1x2x256x4096.size inb) (w := k0_pay1 (X c)) (Mk := Finset.univ) (hx := hx) (hm := hm) (k := p)
    (S := slot c) (f := f) (by rw [View.setOn_univ, slot_access c rfl])
  refine h.trans (wand_mono_left (wand_mono_left ?_))
  have e := slot_split c c fullShare (AG X)
  unfold piece
  rw [← e]
  refine Entails.of_eq (pointsTo_congr fun i hi => ?_)
  rw [← slot_access (inb := inb) c rfl] at hi
  obtain ⟨z, -, rfl⟩ := Finset.mem_map.mp hi
  refine (View.write_emb_of_mem (v := allx.access (Rect.unit (s := S8x2x256x4096) (offS c 0) S1x2x256x4096.size inb)) f _ (Finset.mem_univ z)).trans ?_
  exact (congrFun (slot_read X c inb) z).symm

/-! ## The result -/

/-- Which device's rows a row of the result belongs to, and where among them it lies. -/
def rowBlk (i : S4096x1024.Idx) : Fin 8 := ⟨(i 0).val / 512, by have := (i 0).isLt; have h : S4096x1024.size 0 = 4096 := rfl; omega⟩
def inRow (i : S4096x1024.Idx) : S512x1024.Idx := fun a =>
  ⟨if a = 0 then (i a).val % 512 else (i a).val, by
    match a with
    | 0 => exact Nat.mod_lt _ (by decide)
    | 1 => exact (i 1).isLt⟩

/-- The scale, and the product of device `b`'s rows of `x` with device `c`'s block of `w`, scaled. -/
def scl (c : Dev nD) : Elt F .f32 := Sc c (Shape.Idx.first Nat.one_pos)
def prod (c : Dev nD) (b : Fin 8) : FVec F S512x1024 .f32 := k0_pay2 (X b) (Wt c) (scl Sc c)
/-- What device `c`'s result holds at the end. -/
def res (c : Dev nD) : S4096x1024.Idx → Elt F .f32 := fun i => prod X Wt Sc c (rowBlk i) (inRow i)

/-- Device `c`'s staged result at contents `g`. -/
abbrev outB (c : Dev nD) (g : S4096x1024.Idx → Elt F .f32) : sProp 𝕄 :=
  ((c : Thread nD τ).loc cc0_stg3_0) ↦{fullShare} (g : Buf (Elt F) ((c : Thread nD τ).loc cc0_stg3_0))

/-- Device `c`'s staged result, right in the rows of the blocks `D`. -/
def outAt (D : Finset (Fin 8)) (c : Dev nD) : sProp 𝕄 :=
  iprop(∃ g : S4096x1024.Idx → Elt F .f32, ⌜∀ i, rowBlk i ∈ D → g i = res X Wt Sc c i⌝
    ∗ outB c g)

/-- Reading the rows of `x` back out of a block gives them. -/
theorem unpack (v : Vec F S512x4096 .i8) :
    shapeCast S512x4096 (shapeCast S2x256x4096 (k0_pay1 v) shapeCasts_S1x2x256x4096_S2x256x4096) shapeCasts_S2x256x4096_S512x4096
      = shapeCast S512x4096 v shapeCasts_S512x4096_S512x4096 := by
  unfold k0_pay1
  simp only [shapeCast_shapeCast, shapeCast_self]

/-- A product of a block read from the gather buffer is the product of the rows it holds. -/
theorem pay_eq (b : Fin 8) : k0_pay3 (k0_pay1 (X b)) (Wt c) (scl Sc c) = prod X Wt Sc c b := by
  unfold prod k0_pay2 k0_pay3
  simp only [unpack]

abbrev out3 : Memref sig .tc .vmem S4096x1024 .f32 := Memref.whole cc0_stg3_0

/-- A load of a block of the result's rows, whose value goes unused. -/
theorem load_out (g : S4096x1024.Idx → Elt F .f32) {off : Fin 2 → ℕ} {inb}
    {hl : out3.view.LoadsAt (Rect.unit (s := S4096x1024) off S512x1024.size inb).toLoadRect}
    {p : Prog (TpuEff nD τ sig (Elt F) Λ₀ .tc) α} {Q : α → sProp 𝕄} :
    outB c g ⊢ iprop((outB c g -∗ WPc c p Q)
      -∗ WPc c (.op (.load out3 (Rect.unit (s := S4096x1024) off S512x1024.size inb).toLoadRect hl) fun _ => p) Q) :=
  wp_load_rect (defs := defs₀ (F := F)) 𝒱₀ (c : Thread nD τ) none (Γ := []) Set.univ (Q := Q) (m := out3)
    (r := Rect.unit (s := S4096x1024) off S512x1024.size inb) (hl := hl) (k := fun _ => p) (S := Finset.univ) (q := fullShare) (f := g) (Finset.subset_univ _)

/-- A store of a block of the result's rows. -/
theorem store_out (g : S4096x1024.Idx → Elt F .f32) {off : Fin 2 → ℕ} {inb} {w : FVec F S512x1024 .f32}
    {hx : (out3.access (Rect.unit (s := S4096x1024) off S512x1024.size inb)).Stores Finset.univ} {hm}
    {p : PUnit → Prog (TpuEff nD τ sig (Elt F) Λ₀ .tc) α} {Q : α → sProp 𝕄} :
    outB c g ⊢ iprop((outB c ((out3.access (Rect.unit (s := S4096x1024) off S512x1024.size inb)).write (Elt F) g w Finset.univ) -∗ WPc c (p ⟨⟩) Q)
      -∗ WPc c (.op (.store out3 (Rect.unit (s := S4096x1024) off S512x1024.size inb) w Finset.univ hx hm) p) Q) :=
  wp_store (defs := defs₀ (F := F)) 𝒱₀ (c : Thread nD τ) none (Γ := []) Set.univ (Q := Q) (m := out3)
    (r := Rect.unit (s := S4096x1024) off S512x1024.size inb) (w := w) (Mk := Finset.univ) (hx := hx) (hm := hm) (k := p) (S := Finset.univ) (f := g) (Finset.subset_univ _)

/-- The end of each product: `w` and the scale are loaded, and the product stored as block `b` of the
    result's rows. -/
theorem gemm (b : Fin 8) (D : Finset (Fin 8)) {off : Fin 2 → ℕ} (hoff : off = offO b)
    (pay : Vec F S4096x1024 .i8 → Elt F .f32 → FVec F S512x1024 .f32) (hpay : pay (Wt c) (scl Sc c) = prod X Wt Sc c b)
    {inb1 inb2 inb3 inb4}
    {hl1 : (Memref.whole cc0_stg1_0 : Memref sig .tc .vmem S4096x1024 .i8).view.LoadsAt (Rect.unit (s := S4096x1024) ![0, 0] S4096x1024.size inb1).toLoadRect}
    {hl2 : (Memref.whole cc0_stg2_0 : Memref sig .tc .smem S1x1 .f32).view.LoadsAt (Rect.unit (s := S1x1) ![0, 0] S1x1.size inb2).toLoadRect}
    {hl3 : out3.view.LoadsAt (Rect.unit (s := S4096x1024) off S512x1024.size inb3).toLoadRect}
    {hx : (out3.access (Rect.unit (s := S4096x1024) off S512x1024.size inb4)).Stores Finset.univ} {hm} {h1}
    {p : PUnit → Prog (TpuEff nD τ sig (Elt F) Λ₀ .tc) α} {Q : α → sProp 𝕄} :
    iprop(inW Wt c ∗ inS Sc c ∗ outAt X Wt Sc D c)
      ⊢ iprop(((inW Wt c ∗ inS Sc c ∗ outAt X Wt Sc (insert b D) c) -∗ WPc c (p ⟨⟩) Q)
        -∗ WPc c (.op (.load (Memref.whole cc0_stg1_0 : Memref sig .tc .vmem S4096x1024 .i8) (Rect.unit (s := S4096x1024) ![0, 0] S4096x1024.size inb1).toLoadRect hl1) fun w =>
          .op (.load (Memref.whole cc0_stg2_0 : Memref sig .tc .smem S1x1 .f32) (Rect.unit (s := S1x1) ![0, 0] S1x1.size inb2).toLoadRect hl2) fun s =>
          .op (.load out3 (Rect.unit (s := S4096x1024) off S512x1024.size inb3).toLoadRect hl3) fun _ =>
          .op (.store out3 (Rect.unit (s := S4096x1024) off S512x1024.size inb4) (pay w (s (Shape.Idx.first h1))) Finset.univ hx hm) p) Q) := by
  subst hoff
  unfold outAt
  iintro ⟨Hw, Hs, %g, %hg, Ho⟩ Hk
  iapply (load_w Wt c) $$ Hw; iintro Hw
  iapply (load_s Sc c) $$ Hs; iintro Hs
  iapply (load_out c g) $$ Ho; iintro Ho
  iapply (store_out c g) $$ Ho; iintro Ho
  iapply Hk
  isplitl [Hw]; · iexact Hw
  isplitl [Hs]; · iexact Hs
  iexists ((out3.access (Rect.unit (s := S4096x1024) (offO b) S512x1024.size inb4)).write (Elt F) g (pay (Wt c) (Sc c (Shape.Idx.first h1))) Finset.univ)
  isplitr
  · ipureintro
    intro i hi
    have hp : pay (Wt c) (Sc c (Shape.Idx.first h1)) = prod X Wt Sc c b := hpay
    rw [hp]
    by_cases hb : rowBlk i = b
    · have hi' : i = (out3.access (Rect.unit (s := S4096x1024) (offO b) S512x1024.size inb4)).emb (inRow i) := by
        funext a
        apply Fin.ext
        have e : (i 0).val / 512 = b.val := congrArg Fin.val hb
        match a with
        | 0 =>
          show (i 0).val = 512 * b.val + 1 * ((i 0).val % 512)
          omega
        | 1 => show (i 1).val = 0 + 1 * (i 1).val; omega
      conv_lhs => rw [hi']
      refine (View.write_emb_of_mem (v := out3.access (Rect.unit (s := S4096x1024) (offO b) S512x1024.size inb4)) g _ (Finset.mem_univ _)).trans ?_
      show prod X Wt Sc c b (inRow i) = prod X Wt Sc c (rowBlk i) (inRow i)
      rw [hb]
    · refine (View.write_of_not_mem (v := out3.access (Rect.unit (s := S4096x1024) (offO b) S512x1024.size inb4)) g _ _ ?_).trans ?_
      · rw [View.setOn_univ, View.set_slice_whole, Rect.mem_set_unit]
        intro h
        have h0 := h 0
        apply hb
        apply Fin.ext
        show (i 0).val / 512 = b.val
        have e1 : offO b 0 = 512 * b.val := rfl
        have e2 : S512x1024.size 0 = 512 := rfl
        omega
      · exact hg i ((Finset.mem_insert.mp hi).resolve_left hb)
  · iexact Ho

end Cert.KernelIdeal.Talk

end
-- ==== Proof.Ideal.Parts.lean ====
/-
  The kernel's parts up to the last copy, one after the other, each run once at a symbolic device `c`:
  what a part needs, and what it leaves.
-/
module

public import proofs.«01_k».proof.Proof.Ideal.Mem

@[expose] public section

noncomputable section

namespace Cert.KernelIdeal.Talk

open Cert.Mesh Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The operands as the body sees them; each is a whole buffer. -/
abbrev m0 : Memref sig .tc .vmem S512x4096 .i8 := Memref.whole cc0_stg0_0
abbrev m1 : Memref sig .tc .vmem S4096x1024 .i8 := Memref.whole cc0_stg1_0
abbrev m2 : Memref sig .tc .smem S1x1 .f32 := Memref.whole cc0_stg2_0
abbrev h0 : m0.IsWhole := Memref.isWhole_whole _
abbrev h1 : m1.IsWhole := Memref.isWhole_whole _
abbrev h2 : m2.IsWhole := Memref.isWhole_whole _
abbrev h3 : out3.IsWhole := Memref.isWhole_whole _
abbrev h4 : allx.IsWhole := Memref.isWhole_whole _

variable (X : Dev nD → Vec F S512x4096 .i8) (Wt : Dev nD → Vec F S4096x1024 .i8) (Sc : Dev nD → Vec F S1x1 .f32)
variable (K : GSem nD τ sig → ℕ) (c : Dev nD)

/-! ## The steps, with what is still owed counted by the copies already started -/

/-- Device `c` owes the copies that come after its first `n`. -/
def due (n : ℕ) (c : Dev nD) : sProp 𝕄 := owes' c (owed (sends.drop n) c)

/-- Before the first copy every landing is owed. -/
theorem due_0 (c : Dev nD) : due (F := F) 0 c = owes' c (owed sends c) := rfl

/-- The product of block `b` needs: the staged block of `w`, the scale, and the result, right in `D` so far. -/
def mul (D : Finset (Fin 8)) (c : Dev nD) : sProp 𝕄 := iprop(inW Wt c ∗ inS Sc c ∗ outAt X Wt Sc D c)

section Steps

variable {α : Type} {p : PUnit → Prog (TpuEff nD τ sig (Elt F) Λ₀ .tc) α} (b : Fin 8) (q : PosShare TreeShare)
  {vs vd : Memref sig .tc .vmem S256x4096 .i8} {h₁ : vs.view.WordExact} {h₂ : vd.view.WordExact}

/-- The `n`-th COPY of a device. -/
theorem copy (n : ℕ) (f : Fin 7) (s : Fin 2) (hn : sends.drop n = (f, s) :: sends.drop (n + 1)) {sS sR : DmaSem sig} {d : Dev nD}
    (hb : blk f c = b) (hq : lent f = q) (hvs : vs = sub b s) (hvd : vd = sub b s) (hS : sS = sendS f s) (hR : sR = recvS f s) (hd : d = tgt f c)
    {hsc : vd.view.ref.isScScratch = false}
    {h₃ : DmaTarget.Typed .vmem (.dma sR) (.remote (Dev.tc d : Thread nD τ) vd (.dma sS) hsc)} {Q : α → sProp 𝕄} :
    ctx X K ⊢ iprop(tx f s c -∗ landing f s c -∗ piece X c b s q -∗ due n c
      -∗ ((wx f s c ∗ due (n + 1) c) -∗ WPc c (p ⟨⟩) Q)
      -∗ WPc c (.op (.enqueueDma vs (.remote (Dev.tc d : Thread nD τ) vd (.dma sS) hsc) (.dma sR) h₁ h₂ h₃) p) Q) := by
  unfold due
  rw [hn]
  iintro #HC Ht HL Hp HO Hk
  iapply (step_send X K c f s (sends.drop (n + 1)) hb hq hvs hvd hS hR hd) $$ [Ht HL Hp HO]
  · isplitr; · iexact HC
    isplitl [Ht]; · iexact Ht
    isplitl [HL]; · iexact HL
    isplitl [Hp]; · iexact Hp
    iexact HO
  iexact Hk

/-- The WAIT for a landing, after `n` copies. -/
theorem await (n : ℕ) (f : Fin 7) (s : Fin 2) (hn : ∀ p ∈ sends.drop n, depth f < depth p.1) {sR : DmaSem sig}
    (hR : sR = recvS f s) (hb : rblk f c = b) (hvs : vs = sub b s) (hvd : vd = sub b s) {Q : α → sProp 𝕄} :
    ctx X K ⊢ iprop(rx f s c -∗ due n c
      -∗ ((semVal (recvCell f s c) 0 ∗ piece X c b s fullShare ∗ due n c) -∗ WPc c (p ⟨⟩) Q)
      -∗ WPc c (.op (.waitDma2 sR vs vd h₁ h₂) p) Q) := by
  unfold due
  iintro #HC Hr HO Hk
  iapply (step_recv X K c f s (sends.drop n) hn hR hb (by rw [hvd]; exact NB_eq b s)) $$ [Hr HO]
  · isplitr; · iexact HC
    isplitl [Hr]; · iexact Hr
    iexact HO
  iexact Hk

/-- The WAIT for a copy's source, after all fourteen copies. -/
theorem sent (f : Fin 7) (s : Fin 2) {sS : DmaSem sig}
    (hS : sS = sendS f s) (hb : blk f c = b) (hq : lent f = q) (hvs : vs = sub b s) (hvd : vd = sub b s) {Q : α → sProp 𝕄} :
    ctx X K ⊢ iprop(wx f s c -∗ due 14 c
      -∗ ((semVal (sendCell f s c) 0 ∗ piece X c b s q ∗ due 14 c) -∗ WPc c (p ⟨⟩) Q)
      -∗ WPc c (.op (.waitDma2 sS vs vd h₁ h₂) p) Q) := by
  have h0 : due (F := F) 14 c = owes' c 0 := rfl
  rw [h0]
  iintro #HC Hr HO Hk
  iapply (step_sent X K c f s hS hb hq (by rw [hvd]; exact NB_eq b s)) $$ [Hr HO]
  · isplitr; · iexact HC
    isplitl [Hr]; · iexact Hr
    iexact HO
  iexact Hk

end Steps

/-- A PRODUCT: block `b`, held at any share, is multiplied by `w`, scaled, and stored. -/
theorem product (b : Fin 8) (q : PosShare TreeShare) (D : Finset (Fin 8)) {off : Fin 4 → ℕ} {off' : Fin 2 → ℕ} (hoff : off = offS b 0) (hoff' : off' = offO b)
    (pay : Vec F S1x2x256x4096 .i8 → Vec F S4096x1024 .i8 → Elt F .f32 → FVec F S512x1024 .f32) (hpay : pay = k0_pay3)
    {inb inb1 inb2 inb3 inb4}
    {hl : allx.view.LoadsAt (Rect.unit (s := S8x2x256x4096) off S1x2x256x4096.size inb).toLoadRect}
    {hl1 : m1.view.LoadsAt (Rect.unit (s := S4096x1024) ![0, 0] S4096x1024.size inb1).toLoadRect}
    {hl2 : m2.view.LoadsAt (Rect.unit (s := S1x1) ![0, 0] S1x1.size inb2).toLoadRect}
    {hl3 : out3.view.LoadsAt (Rect.unit (s := S4096x1024) off' S512x1024.size inb3).toLoadRect}
    {hx : (out3.access (Rect.unit (s := S4096x1024) off' S512x1024.size inb4)).Stores Finset.univ} {hm} {h1}
    {α : Type} {p : PUnit → Prog (TpuEff nD τ sig (Elt F) Λ₀ .tc) α} {Q : α → sProp 𝕄} :
    piece X c b 0 q ⊢ iprop(piece X c b 1 q -∗ mul X Wt Sc D c
      -∗ ((piece X c b 0 q ∗ piece X c b 1 q ∗ mul X Wt Sc (insert b D) c) -∗ WPc c (p ⟨⟩) Q)
      -∗ WPc c (.op (.load allx (Rect.unit (s := S8x2x256x4096) off S1x2x256x4096.size inb).toLoadRect hl) fun v =>
          .op (.load m1 (Rect.unit (s := S4096x1024) ![0, 0] S4096x1024.size inb1).toLoadRect hl1) fun w =>
          .op (.load m2 (Rect.unit (s := S1x1) ![0, 0] S1x1.size inb2).toLoadRect hl2) fun s =>
          .op (.load out3 (Rect.unit (s := S4096x1024) off' S512x1024.size inb3).toLoadRect hl3) fun _ =>
          .op (.store out3 (Rect.unit (s := S4096x1024) off' S512x1024.size inb4) (pay v w (s (Shape.Idx.first h1))) Finset.univ hx hm) p) Q) := by
  subst hpay
  unfold mul
  iintro H0 H1 HM Hk
  iapply (load_slot X c b q hoff) $$ [H0 H1]
  · isplitl [H0] <;> iassumption
  iintro ⟨H0, H1⟩
  iapply (gemm X Wt Sc c b D hoff' (k0_pay3 (k0_pay1 (X b))) (pay_eq X Wt Sc c b)) $$ HM
  iintro HM
  iapply Hk
  iframe

/-- What device `c` signals with, as the `k`-th payer of `payee k c`. -/
def sg (k : Fin 3) (e : Dev nD) : sProp 𝕄 := iprop(reached ER (barCell e) 0 ∗ dutyTok ER (barCell e) 0 k ∗ barPay k e)

/-- What each of the three signals at a barrier hands over. -/
theorem barPay_0 : barPay (F := F) 0 c
    = iprop((landing 1 0 c ∗ landing 1 1 c) ∗ (landing 5 0 c ∗ landing 5 1 c) ∗ landing 6 0 c ∗ landing 6 1 c) := rfl
theorem barPay_1 : barPay (F := F) 1 c
    = iprop((landing 0 0 c ∗ landing 0 1 c) ∗ (landing 3 0 c ∗ landing 3 1 c) ∗ landing 4 0 c ∗ landing 4 1 c) := rfl
theorem barPay_2 : barPay (F := F) 2 c = iprop(landing 2 0 c ∗ landing 2 1 c) := rfl

/-- A program that is over. -/
theorem done {α : Type} {a : α} {Q : α → sProp 𝕄} : Q a ⊢ WPc c (.ret a) Q := by
  unfold WPc
  rw [wp_ret]
  iintro H; imodintro; iexact H

/-- The three SIGNALS. -/
theorem part1 {Q : (Σ' (d0 : Dev nD) (v2 : BitVec 32) (v7 : BitVec 32) (v10 : BitVec 32) (v12 : BitVec 32) (v15 : BitVec 32) (v17 : BitVec 32) (v19 : BitVec 32) (v21 : BitVec 32), Sems sig S_) → sProp 𝕄} :
    iprop(ctx X K ∗ sg 1 (left c) ∗ sg 0 (right c) ∗ sg 2 (anti c) ∗ owes' c (O₀ c))
      ⊢ iprop((∀ v2 v7 v10 v12 v15 v17 v19 v21, due 0 c -∗ Q ⟨c, v2, v7, v10, v12, v15, v17, v19, v21, SemArray.scalar barS⟩)
        -∗ WPc c (k0_part1 m0 h0 m1 h1 m2 h2 out3 h3 allx h4 cc0_scratch1 cc0_scratch2) Q) := by
  rw [k0_part1_eq_skeleton]; unfold k0_part1_skel
  simp only [semSignalWord, Prog.lift, Prog.bind_op, Prog.bind_ret, Prog.pure_eq_ret, wp_deviceId]
  unfold sg O₀
  iintro ⟨#HC, ⟨#HR1, Ht1, Hp1⟩, ⟨#HR0, Ht0, Hp0⟩, ⟨#HR2, Ht2, Hp2⟩, HO⟩ Hk
  iapply (step_signal X K c 1 (dev1 c) rfl _) $$ [Ht1 Hp1 HO]
  · isplitr; · iexact HC
    isplitr; · iexact HR1
    isplitl [Ht1]; · iexact Ht1
    isplitl [Hp1]; · iexact Hp1
    iexact HO
  iintro HO
  iapply (step_signal X K c 0 (dev2 c) rfl _) $$ [Ht0 Hp0 HO]
  · isplitr; · iexact HC
    isplitr; · iexact HR0
    isplitl [Ht0]; · iexact Ht0
    isplitl [Hp0]; · iexact Hp0
    iexact HO
  iintro HO
  iapply (step_signal X K c 2 (dev3 c) rfl _) $$ [Ht2 Hp2 HO]
  · isplitr; · iexact HC
    isplitr; · iexact HR2
    isplitl [Ht2]; · iexact Ht2
    isplitl [Hp2]; · iexact Hp2
    iexact HO
  iintro HO
  iapply (done c)
  iapply Hk
  unfold due; iexact HO

/-- The WAIT on the barrier, the own rows into the gather buffer, and the first copy to the right. -/
theorem part2 (f : S8x2x256x4096.Idx → Elt F .i8) (v2 v7 v10 : BitVec 32) {Q : PUnit → sProp 𝕄} :
    iprop(ctx X K ∗ (atPos ER (barCell c) 0 ∅ 0 ∗ cred (tallyAt (barCell c) () 3)) ∗ inX X c ∗ bufAt c (slot c) fullShare f
        ∗ tx 0 0 c ∗ due 0 c)
      ⊢ iprop(((semVal (barCell c) 0 ∗ barPay 0 c ∗ landing 0 1 c ∗ (landing 3 0 c ∗ landing 3 1 c) ∗ (landing 4 0 c ∗ landing 4 1 c) ∗ barPay 2 c ∗ inX X c
            ∗ wx 0 0 c ∗ piece X c c 0 fullShare.right ∗ piece X c c 1 fullShare ∗ due 1 c) -∗ Q ⟨⟩)
        -∗ WPc c (k0_part2 m0 h0 m1 h1 m2 h2 out3 h3 allx h4 cc0_scratch1 cc0_scratch2 c v2 v7 v10 (SemArray.scalar barS)) Q) := by
  rw [k0_part2_eq_skeleton]; unfold k0_part2_skel
  simp only [semWaitWord, Prog.lift, Prog.bind_op, Prog.bind_ret, Prog.pure_eq_ret]
  iintro ⟨#HC, ⟨Ha, Hc⟩, HX, Hb, Ht, HO⟩ Hk
  ihave HO := (Entails.of_eq (due_0 c)) $$ HO
  iapply (step_barrier X K c sends (by decide) rfl) $$ [Ha Hc HO]
  · isplitr; · iexact HC
    isplitl [Ha]; · iexact Ha
    isplitl [Hc]; · iexact Hc
    iexact HO
  iintro ⟨Hz, Hp0, Hp1, Hp2, HO⟩
  iapply (load_x X c) $$ HX; iintro HX
  iapply (load_any c c f (off1 c)) $$ Hb; iintro Hb
  iapply (store_own X c f (off1 c)) $$ Hb; iintro ⟨Hb0, Hb1⟩
  icases (piece_split X c c 0 fullShare) $$ Hb0 with ⟨Hl, Hr⟩
  icases (Entails.of_eq (barPay_1 c)) $$ Hp1 with ⟨⟨L00, L01⟩, L3, L4⟩
  ihave HO := (Entails.of_eq (due_0 c).symm) $$ HO
  iapply (copy X K c c fullShare.left 0 0 0 rfl rfl rfl (sub_of c 0 (off2 c)) (sub_of c 0 (off2 c)) (send_of 0 0) (recv_of 0 0) (dev4 c)) $$ HC Ht L00 Hl HO
  iintro ⟨Hw, HO⟩
  iapply (done c)
  iapply Hk
  iframe

/-- The copies of the own rows' first half to the left and across, and of the second half to the right. -/
theorem part3 (v7 v10 v12 : BitVec 32) {Q : PUnit → sProp 𝕄} :
    iprop(ctx X K ∗ (tx 1 0 c ∗ tx 2 0 c ∗ tx 0 1 c) ∗ (landing 1 0 c ∗ landing 2 0 c ∗ landing 0 1 c)
        ∗ piece X c c 0 fullShare.right ∗ piece X c c 1 fullShare ∗ due 1 c)
      ⊢ iprop((((wx 1 0 c ∗ wx 2 0 c ∗ wx 0 1 c) ∗ piece X c c 1 fullShare.right ∗ due 4 c) -∗ Q ⟨⟩)
        -∗ WPc c (k0_part3 m0 h0 m1 h1 m2 h2 out3 h3 allx h4 cc0_scratch1 cc0_scratch2 c v7 v10 v12) Q) := by
  rw [k0_part3_eq_skeleton]; unfold k0_part3_skel
  simp only [Prog.lift, Prog.bind_op, Prog.bind_ret, Prog.pure_eq_ret]
  iintro ⟨#HC, ⟨T1, T2, T0⟩, ⟨L1, L2, L0⟩, Hr, H1, HO⟩ Hk
  icases (piece_split X c c 0 fullShare.right) $$ Hr with ⟨Hrl, Hrr⟩
  icases (piece_split X c c 1 fullShare) $$ H1 with ⟨H1l, H1r⟩
  iapply (copy X K c c fullShare.right.left 1 1 0 rfl rfl rfl (sub_of c 0 (off2 c)) (sub_of c 0 (off2 c)) (send_of 1 0) (recv_of 1 0) (dev5 c)) $$ HC T1 L1 Hrl HO
  iintro ⟨W1, HO⟩
  iapply (copy X K c c fullShare.right.right 2 2 0 rfl rfl rfl (sub_of c 0 (off2 c)) (sub_of c 0 (off2 c)) (send_of 2 0) (recv_of 2 0) (dev6 c)) $$ HC T2 L2 Hrr HO
  iintro ⟨W2, HO⟩
  iapply (copy X K c c fullShare.left 3 0 1 rfl rfl rfl (sub_of c 1 (off3 c)) (sub_of c 1 (off3 c)) (send_of 0 1) (recv_of 0 1) (dev7 c)) $$ HC T0 L0 H1l HO
  iintro ⟨W0, HO⟩
  iapply (done c)
  iapply Hk
  iframe

/-- The copies of the second half to the left and across, and the product of the own rows. -/
theorem part4 (D : Finset (Fin 8)) (v2 v12 : BitVec 32) {Q : PUnit → sProp 𝕄} :
    iprop(ctx X K ∗ (tx 1 1 c ∗ tx 2 1 c) ∗ (landing 1 1 c ∗ landing 2 1 c) ∗ piece X c c 1 fullShare.right
        ∗ inX X c ∗ mul X Wt Sc D c ∗ due 4 c)
      ⊢ iprop((((wx 1 1 c ∗ wx 2 1 c) ∗ inX X c ∗ mul X Wt Sc (insert c D) c ∗ due 6 c) -∗ Q ⟨⟩)
        -∗ WPc c (k0_part4 m0 h0 m1 h1 m2 h2 out3 h3 allx h4 cc0_scratch1 cc0_scratch2 c v2 v12) Q) := by
  rw [k0_part4_eq_skeleton]; unfold k0_part4_skel
  simp only [smemLoad, smemLoadElt, Prog.lift, Prog.bind_op, Prog.bind_ret, Prog.pure_eq_ret]
  iintro ⟨#HC, ⟨T1, T2⟩, ⟨L1, L2⟩, Hr, HX, HM, HO⟩ Hk
  icases (piece_split X c c 1 fullShare.right) $$ Hr with ⟨Hrl, Hrr⟩
  iapply (copy X K c c fullShare.right.left 4 1 1 rfl rfl rfl (sub_of c 1 (off3 c)) (sub_of c 1 (off3 c)) (send_of 1 1) (recv_of 1 1) (dev8 c)) $$ HC T1 L1 Hrl HO
  iintro ⟨W1, HO⟩
  iapply (copy X K c c fullShare.right.right 5 2 1 rfl rfl rfl (sub_of c 1 (off3 c)) (sub_of c 1 (off3 c)) (send_of 2 1) (recv_of 2 1) (dev9 c)) $$ HC T2 L2 Hrr HO
  iintro ⟨W2, HO⟩
  iapply (load_x X c) $$ HX; iintro HX
  unfold mul
  iapply (gemm X Wt Sc c c D (off4 c) (k0_pay2 (X c)) rfl) $$ HM
  iintro HM
  iapply (done c)
  iapply Hk
  iframe

/-- The left neighbour's first half lands and is passed on to the right. -/
theorem part5 (v7 : BitVec 32) {Q : PUnit → sProp 𝕄} :
    iprop(ctx X K ∗ rx 0 0 c ∗ tx 3 0 c ∗ landing 3 0 c ∗ due 6 c)
      ⊢ iprop(((semVal (recvCell 0 0 c) 0 ∗ wx 3 0 c ∗ piece X c (left c) 0 fullShare.right ∗ due 7 c) -∗ Q ⟨⟩)
        -∗ WPc c (k0_part5 m0 h0 m1 h1 m2 h2 out3 h3 allx h4 cc0_scratch1 cc0_scratch2 c v7) Q) := by
  rw [k0_part5_eq_skeleton]; unfold k0_part5_skel
  simp only [Prog.lift, Prog.bind_op, Prog.bind_ret, Prog.pure_eq_ret]
  iintro ⟨#HC, HR, T, L, HO⟩ Hk
  iapply (await X K c (left c) 6 0 0 (by decide) (recv_of 0 0) rfl (sub_of (left c) 0 (off5_l c)) (sub_of (left c) 0 (off5_l c))) $$ HC HR HO
  iintro ⟨Hz, Hp, HO⟩
  icases (piece_split X c (left c) 0 fullShare) $$ Hp with ⟨Hl, Hr⟩
  iapply (copy X K c (left c) fullShare.left 6 3 0 rfl rfl rfl (sub_of (left c) 0 (off5_l c)) (sub_of (left c) 0 (off5_l c)) (send_of 3 0) (recv_of 3 0) (dev10 c)) $$ HC T L Hl HO
  iintro ⟨W, HO⟩
  iapply (done c)
  iapply Hk
  iframe

/-- So does its second half; then the product of the left neighbour's rows. -/
theorem part6 (D : Finset (Fin 8)) (v7 v10 v12 : BitVec 32) {Q : PUnit → sProp 𝕄} :
    iprop(ctx X K ∗ rx 0 1 c ∗ tx 3 1 c ∗ landing 3 1 c ∗ piece X c (left c) 0 fullShare.right ∗ mul X Wt Sc D c ∗ due 7 c)
      ⊢ iprop(((semVal (recvCell 0 1 c) 0 ∗ wx 3 1 c ∗ (piece X c (left c) 0 fullShare.right ∗ piece X c (left c) 1 fullShare.right)
            ∗ mul X Wt Sc (insert (left c) D) c ∗ due 8 c) -∗ Q ⟨⟩)
        -∗ WPc c (k0_part6 m0 h0 m1 h1 m2 h2 out3 h3 allx h4 cc0_scratch1 cc0_scratch2 c v7 v10 v12) Q) := by
  rw [k0_part6_eq_skeleton]; unfold k0_part6_skel
  simp only [smemLoad, smemLoadElt, Prog.lift, Prog.bind_op, Prog.bind_ret, Prog.pure_eq_ret]
  iintro ⟨#HC, HR, T, L, H0, HM, HO⟩ Hk
  iapply (await X K c (left c) 7 0 1 (by decide) (recv_of 0 1) rfl (sub_of (left c) 1 (off6_l c)) (sub_of (left c) 1 (off6_l c))) $$ HC HR HO
  iintro ⟨Hz, Hp, HO⟩
  icases (piece_split X c (left c) 1 fullShare) $$ Hp with ⟨Hl, Hr⟩
  iapply (copy X K c (left c) fullShare.left 7 3 1 rfl rfl rfl (sub_of (left c) 1 (off6_l c)) (sub_of (left c) 1 (off6_l c)) (send_of 3 1) (recv_of 3 1) (dev11 c)) $$ HC T L Hl HO
  iintro ⟨W, HO⟩
  iapply (product X Wt Sc c (left c) fullShare.right D (off7_l c) (off8_l c) k0_pay3 rfl) $$ H0 Hr HM
  iintro ⟨H0, Hr, HM⟩
  iapply (done c)
  iapply Hk
  iframe

/-- The opposite device's first half lands and is passed on to the right and to the left. -/
theorem part7 (v7 v10 : BitVec 32) {Q : PUnit → sProp 𝕄} :
    iprop(ctx X K ∗ rx 2 0 c ∗ (tx 4 0 c ∗ tx 5 0 c) ∗ (landing 4 0 c ∗ landing 5 0 c) ∗ due 8 c)
      ⊢ iprop(((semVal (recvCell 2 0 c) 0 ∗ (wx 4 0 c ∗ wx 5 0 c) ∗ piece X c (anti c) 0 fullShare.right.right ∗ due 10 c) -∗ Q ⟨⟩)
        -∗ WPc c (k0_part7 m0 h0 m1 h1 m2 h2 out3 h3 allx h4 cc0_scratch1 cc0_scratch2 c v7 v10) Q) := by
  rw [k0_part7_eq_skeleton]; unfold k0_part7_skel
  simp only [Prog.lift, Prog.bind_op, Prog.bind_ret, Prog.pure_eq_ret]
  iintro ⟨#HC, HR, ⟨T4, T5⟩, ⟨L4, L5⟩, HO⟩ Hk
  iapply (await X K c (anti c) 8 2 0 (by decide) (recv_of 2 0) rfl (sub_of (anti c) 0 (off9 c)) (sub_of (anti c) 0 (off9 c))) $$ HC HR HO
  iintro ⟨Hz, Hp, HO⟩
  icases (piece_split X c (anti c) 0 fullShare) $$ Hp with ⟨Hl, Hr⟩
  icases (piece_split X c (anti c) 0 fullShare.right) $$ Hr with ⟨Hrl, Hrr⟩
  iapply (copy X K c (anti c) fullShare.left 8 4 0 rfl rfl rfl (sub_of (anti c) 0 (off9 c)) (sub_of (anti c) 0 (off9 c)) (send_of 4 0) (recv_of 4 0) (dev12 c)) $$ HC T4 L4 Hl HO
  iintro ⟨W4, HO⟩
  iapply (copy X K c (anti c) fullShare.right.left 9 5 0 rfl rfl rfl (sub_of (anti c) 0 (off9 c)) (sub_of (anti c) 0 (off9 c)) (send_of 5 0) (recv_of 5 0) (dev13 c)) $$ HC T5 L5 Hrl HO
  iintro ⟨W5, HO⟩
  iapply (done c)
  iapply Hk
  iframe

/-- Its second half lands and is passed on to the right. -/
theorem part8 (v7 v10 v12 : BitVec 32) {Q : PUnit → sProp 𝕄} :
    iprop(ctx X K ∗ rx 2 1 c ∗ tx 4 1 c ∗ landing 4 1 c ∗ due 10 c)
      ⊢ iprop(((semVal (recvCell 2 1 c) 0 ∗ wx 4 1 c ∗ piece X c (anti c) 1 fullShare.right ∗ due 11 c) -∗ Q ⟨⟩)
        -∗ WPc c (k0_part8 m0 h0 m1 h1 m2 h2 out3 h3 allx h4 cc0_scratch1 cc0_scratch2 c v7 v10 v12) Q) := by
  rw [k0_part8_eq_skeleton]; unfold k0_part8_skel
  simp only [Prog.lift, Prog.bind_op, Prog.bind_ret, Prog.pure_eq_ret]
  iintro ⟨#HC, HR, T, L, HO⟩ Hk
  iapply (await X K c (anti c) 10 2 1 (by decide) (recv_of 2 1) rfl (sub_of (anti c) 1 (off10 c)) (sub_of (anti c) 1 (off10 c))) $$ HC HR HO
  iintro ⟨Hz, Hp, HO⟩
  icases (piece_split X c (anti c) 1 fullShare) $$ Hp with ⟨Hl, Hr⟩
  iapply (copy X K c (anti c) fullShare.left 10 4 1 rfl rfl rfl (sub_of (anti c) 1 (off10 c)) (sub_of (anti c) 1 (off10 c)) (send_of 4 1) (recv_of 4 1) (dev14 c)) $$ HC T L Hl HO
  iintro ⟨W, HO⟩
  iapply (done c)
  iapply Hk
  iframe

/-- It is passed on to the left; the product of the opposite device's rows; the right neighbour's first
    half lands. -/
theorem part9 (D : Finset (Fin 8)) (v10 v12 : BitVec 32) {Q : (Σ' (v239 : BitVec 32), BitVec 32) → sProp 𝕄} :
    iprop(ctx X K ∗ tx 5 1 c ∗ landing 5 1 c ∗ piece X c (anti c) 0 fullShare.right.right ∗ piece X c (anti c) 1 fullShare.right
        ∗ mul X Wt Sc D c ∗ rx 1 0 c ∗ due 11 c)
      ⊢ iprop((∀ z, (wx 5 1 c ∗ (piece X c (anti c) 0 fullShare.right.right ∗ piece X c (anti c) 1 fullShare.right.right)
            ∗ mul X Wt Sc (insert (anti c) D) c ∗ semVal (recvCell 1 0 c) 0 ∗ piece X c (right c) 0 fullShare ∗ due 12 c) -∗ Q z)
        -∗ WPc c (k0_part9 m0 h0 m1 h1 m2 h2 out3 h3 allx h4 cc0_scratch1 cc0_scratch2 c v10 v12) Q) := by
  rw [k0_part9_eq_skeleton]; unfold k0_part9_skel
  simp only [smemLoad, smemLoadElt, Prog.lift, Prog.bind_op, Prog.bind_ret, Prog.pure_eq_ret]
  iintro ⟨#HC, T, L, H0, H1, HM, HR, HO⟩ Hk
  icases (piece_split X c (anti c) 1 fullShare.right) $$ H1 with ⟨Hrl, Hrr⟩
  iapply (copy X K c (anti c) fullShare.right.left 11 5 1 rfl rfl rfl (sub_of (anti c) 1 (off10 c)) (sub_of (anti c) 1 (off10 c)) (send_of 5 1) (recv_of 5 1) (dev15 c)) $$ HC T L Hrl HO
  iintro ⟨W, HO⟩
  iapply (product X Wt Sc c (anti c) fullShare.right.right D (off11 c) (off12 c) k0_pay4 rfl) $$ H0 Hrr HM
  iintro ⟨H0, Hrr, HM⟩
  iapply (await X K c (right c) 12 1 0 (by decide) (recv_of 1 0) rfl (sub_of (right c) 0 (off5_r c)) (sub_of (right c) 0 (off5_r c))) $$ HC HR HO
  iintro ⟨Hz, Hp, HO⟩
  iapply (done c)
  iapply Hk
  iframe

/-- The right neighbour's second half lands; the product of its rows; what the right neighbour passes on
    from its opposite device lands, first half. -/
theorem part10 (D : Finset (Fin 8)) (v7 v10 v239 w : BitVec 32) {Q : PUnit → sProp 𝕄} :
    iprop(ctx X K ∗ rx 1 1 c ∗ rx 5 0 c ∗ piece X c (right c) 0 fullShare ∗ mul X Wt Sc D c ∗ due 12 c)
      ⊢ iprop(((semVal (recvCell 1 1 c) 0 ∗ semVal (recvCell 5 0 c) 0 ∗ (piece X c (right c) 0 fullShare ∗ piece X c (right c) 1 fullShare)
            ∗ mul X Wt Sc (insert (right c) D) c ∗ piece X c (anti (right c)) 0 fullShare ∗ due 12 c) -∗ Q ⟨⟩)
        -∗ WPc c (k0_part10 m0 h0 m1 h1 m2 h2 out3 h3 allx h4 cc0_scratch1 cc0_scratch2 c v7 v10 v239 w) Q) := by
  rw [k0_part10_eq_skeleton]; unfold k0_part10_skel
  simp only [smemLoad, smemLoadElt, Prog.lift, Prog.bind_op, Prog.bind_ret, Prog.pure_eq_ret]
  iintro ⟨#HC, R1, R5, H0, HM, HO⟩ Hk
  iapply (await X K c (right c) 12 1 1 (by decide) (recv_of 1 1) rfl (sub_of (right c) 1 (off6_r c)) (sub_of (right c) 1 (off6_r c))) $$ HC R1 HO
  iintro ⟨Z1, H1, HO⟩
  iapply (product X Wt Sc c (right c) fullShare D (off7_r c) (off8_r c) k0_pay5 rfl) $$ H0 H1 HM
  iintro ⟨H0, H1, HM⟩
  iapply (await X K c (anti (right c)) 12 5 0 (by decide) (recv_of 5 0) rfl (sub_of (anti (right c)) 0 (off13_r c)) (sub_of (anti (right c)) 0 (off13_r c))) $$ HC R5 HO
  iintro ⟨Z5, Hp, HO⟩
  iapply (done c)
  iapply Hk
  iframe

/-- It is passed on to the left, and its second half lands. -/
theorem part11 (v10 : BitVec 32) {Q : PUnit → sProp 𝕄} :
    iprop(ctx X K ∗ tx 6 0 c ∗ landing 6 0 c ∗ piece X c (anti (right c)) 0 fullShare ∗ rx 5 1 c ∗ due 12 c)
      ⊢ iprop(((wx 6 0 c ∗ semVal (recvCell 5 1 c) 0 ∗ piece X c (anti (right c)) 0 fullShare.right ∗ piece X c (anti (right c)) 1 fullShare ∗ due 13 c) -∗ Q ⟨⟩)
        -∗ WPc c (k0_part11 m0 h0 m1 h1 m2 h2 out3 h3 allx h4 cc0_scratch1 cc0_scratch2 c v10) Q) := by
  rw [k0_part11_eq_skeleton]; unfold k0_part11_skel
  simp only [Prog.lift, Prog.bind_op, Prog.bind_ret, Prog.pure_eq_ret]
  iintro ⟨#HC, T, L, Hp, HR, HO⟩ Hk
  icases (piece_split X c (anti (right c)) 0 fullShare) $$ Hp with ⟨Hl, Hr⟩
  iapply (copy X K c (anti (right c)) fullShare.left 12 6 0 rfl rfl rfl (sub_of (anti (right c)) 0 (off13_r c)) (sub_of (anti (right c)) 0 (off13_r c)) (send_of 6 0) (recv_of 6 0) (dev16 c)) $$ HC T L Hl HO
  iintro ⟨W, HO⟩
  iapply (await X K c (anti (right c)) 13 5 1 (by decide) (recv_of 5 1) rfl (sub_of (anti (right c)) 1 (off14_r c)) (sub_of (anti (right c)) 1 (off14_r c))) $$ HC HR HO
  iintro ⟨Hz, H1, HO⟩
  iapply (done c)
  iapply Hk
  iframe

/-- It is passed on too; the product of these rows; what the left neighbour passes on from its own left
    lands, first half. -/
theorem part12 (D : Finset (Fin 8)) (v7 v19 : BitVec 32) {Q : BitVec 32 → sProp 𝕄} :
    iprop(ctx X K ∗ tx 6 1 c ∗ landing 6 1 c ∗ piece X c (anti (right c)) 0 fullShare.right ∗ piece X c (anti (right c)) 1 fullShare
        ∗ mul X Wt Sc D c ∗ rx 3 0 c ∗ due 13 c)
      ⊢ iprop((∀ z, (wx 6 1 c ∗ (piece X c (anti (right c)) 0 fullShare.right ∗ piece X c (anti (right c)) 1 fullShare.right)
            ∗ mul X Wt Sc (insert (anti (right c)) D) c ∗ semVal (recvCell 3 0 c) 0 ∗ piece X c (left (left c)) 0 fullShare ∗ due 14 c) -∗ Q z)
        -∗ WPc c (k0_part12 m0 h0 m1 h1 m2 h2 out3 h3 allx h4 cc0_scratch1 cc0_scratch2 c v7 v19) Q) := by
  rw [k0_part12_eq_skeleton]; unfold k0_part12_skel
  simp only [smemLoad, smemLoadElt, Prog.lift, Prog.bind_op, Prog.bind_ret, Prog.pure_eq_ret]
  iintro ⟨#HC, T, L, H0, H1, HM, HR, HO⟩ Hk
  icases (piece_split X c (anti (right c)) 1 fullShare) $$ H1 with ⟨Hl, Hr⟩
  iapply (copy X K c (anti (right c)) fullShare.left 13 6 1 rfl rfl rfl (sub_of (anti (right c)) 1 (off14_r c)) (sub_of (anti (right c)) 1 (off14_r c)) (send_of 6 1) (recv_of 6 1) (dev17 c)) $$ HC T L Hl HO
  iintro ⟨W, HO⟩
  iapply (product X Wt Sc c (anti (right c)) fullShare.right D (off15_r c) (off16_r c) k0_pay6 rfl) $$ H0 Hr HM
  iintro ⟨H0, Hr, HM⟩
  iapply (await X K c (left (left c)) 14 3 0 (by decide) (recv_of 3 0) rfl (sub_of (left (left c)) 0 (off5_ll c)) (sub_of (left (left c)) 0 (off5_ll c))) $$ HC HR HO
  iintro ⟨Hz, Hp, HO⟩
  iapply (done c)
  iapply Hk
  iframe

end Cert.KernelIdeal.Talk

end
-- ==== Proof.Ideal.Tail.lean ====
/-
  The kernel's parts after the last copy: the last landings and products, and the waits for the copies'
  sources.
-/
module

public import proofs.«01_k».proof.Proof.Ideal.Parts

@[expose] public section

noncomputable section

namespace Cert.KernelIdeal.Talk

open Cert.Mesh Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .i8) (Wt : Dev nD → Vec F S4096x1024 .i8) (Sc : Dev nD → Vec F S1x1 .f32)
variable (K : GSem nD τ sig → ℕ) (c : Dev nD)

/-- The second half of what the left neighbour passes on from its own left lands; the product. -/
theorem part13 (D : Finset (Fin 8)) (v7 v15 w : BitVec 32) {Q : PUnit → sProp 𝕄} :
    iprop(ctx X K ∗ rx 3 1 c ∗ piece X c (left (left c)) 0 fullShare ∗ mul X Wt Sc D c ∗ due 14 c)
      ⊢ iprop(((semVal (recvCell 3 1 c) 0 ∗ (piece X c (left (left c)) 0 fullShare ∗ piece X c (left (left c)) 1 fullShare)
            ∗ mul X Wt Sc (insert (left (left c)) D) c ∗ due 14 c) -∗ Q ⟨⟩)
        -∗ WPc c (k0_part13 m0 h0 m1 h1 m2 h2 out3 h3 allx h4 cc0_scratch1 cc0_scratch2 c v7 v15 w) Q) := by
  rw [k0_part13_eq_skeleton]; unfold k0_part13_skel
  simp only [smemLoad, smemLoadElt, Prog.lift, Prog.bind_op, Prog.bind_ret, Prog.pure_eq_ret]
  iintro ⟨#HC, HR, H0, HM, HO⟩ Hk
  iapply (await X K c (left (left c)) 14 3 1 (by decide) (recv_of 3 1) rfl (sub_of (left (left c)) 1 (off6_ll c)) (sub_of (left (left c)) 1 (off6_ll c))) $$ HC HR HO
  iintro ⟨Hz, H1, HO⟩
  iapply (product X Wt Sc c (left (left c)) fullShare D (off7_ll c) (off8_ll c) k0_pay7 rfl) $$ H0 H1 HM
  iintro ⟨H0, H1, HM⟩
  iapply (done c)
  iapply Hk
  iframe

/-- What the left neighbour passes on from its opposite device lands; the product. -/
theorem part14 (D : Finset (Fin 8)) (v7 v10 v17 : BitVec 32) {Q : PUnit → sProp 𝕄} :
    iprop(ctx X K ∗ (rx 4 0 c ∗ rx 4 1 c) ∗ mul X Wt Sc D c ∗ due 14 c)
      ⊢ iprop((((semVal (recvCell 4 0 c) 0 ∗ semVal (recvCell 4 1 c) 0) ∗ (piece X c (anti (left c)) 0 fullShare ∗ piece X c (anti (left c)) 1 fullShare)
            ∗ mul X Wt Sc (insert (anti (left c)) D) c ∗ due 14 c) -∗ Q ⟨⟩)
        -∗ WPc c (k0_part14 m0 h0 m1 h1 m2 h2 out3 h3 allx h4 cc0_scratch1 cc0_scratch2 c v7 v10 v17) Q) := by
  rw [k0_part14_eq_skeleton]; unfold k0_part14_skel
  simp only [smemLoad, smemLoadElt, Prog.lift, Prog.bind_op, Prog.bind_ret, Prog.pure_eq_ret]
  iintro ⟨#HC, ⟨R0, R1⟩, HM, HO⟩ Hk
  iapply (await X K c (anti (left c)) 14 4 0 (by decide) (recv_of 4 0) rfl (sub_of (anti (left c)) 0 (off13_l c)) (sub_of (anti (left c)) 0 (off13_l c))) $$ HC R0 HO
  iintro ⟨Z0, H0, HO⟩
  iapply (await X K c (anti (left c)) 14 4 1 (by decide) (recv_of 4 1) rfl (sub_of (anti (left c)) 1 (off14_l c)) (sub_of (anti (left c)) 1 (off14_l c))) $$ HC R1 HO
  iintro ⟨Z1, H1, HO⟩
  iapply (product X Wt Sc c (anti (left c)) fullShare D (off15_l c) (off16_l c) k0_pay8 rfl) $$ H0 H1 HM
  iintro ⟨H0, H1, HM⟩
  iapply (done c)
  iapply Hk
  iframe

/-- What the right neighbour passes on second lands; the last product. -/
theorem part15 (D : Finset (Fin 8)) (v10 v21 : BitVec 32) {Q : PUnit → sProp 𝕄} :
    iprop(ctx X K ∗ (rx 6 0 c ∗ rx 6 1 c) ∗ mul X Wt Sc D c ∗ due 14 c)
      ⊢ iprop((((semVal (recvCell 6 0 c) 0 ∗ semVal (recvCell 6 1 c) 0)
            ∗ (piece X c (anti (right (right c))) 0 fullShare ∗ piece X c (anti (right (right c))) 1 fullShare)
            ∗ mul X Wt Sc (insert (anti (right (right c))) D) c ∗ due 14 c) -∗ Q ⟨⟩)
        -∗ WPc c (k0_part15 m0 h0 m1 h1 m2 h2 out3 h3 allx h4 cc0_scratch1 cc0_scratch2 c v10 v21) Q) := by
  rw [k0_part15_eq_skeleton]; unfold k0_part15_skel
  simp only [smemLoad, smemLoadElt, Prog.lift, Prog.bind_op, Prog.bind_ret, Prog.pure_eq_ret]
  iintro ⟨#HC, ⟨R0, R1⟩, HM, HO⟩ Hk
  iapply (await X K c (anti (right (right c))) 14 6 0 (by decide) (recv_of 6 0) rfl (sub_of (anti (right (right c))) 0 (off13_rr c)) (sub_of (anti (right (right c))) 0 (off13_rr c))) $$ HC R0 HO
  iintro ⟨Z0, H0, HO⟩
  iapply (await X K c (anti (right (right c))) 14 6 1 (by decide) (recv_of 6 1) rfl (sub_of (anti (right (right c))) 1 (off14_rr c)) (sub_of (anti (right (right c))) 1 (off14_rr c))) $$ HC R1 HO
  iintro ⟨Z1, H1, HO⟩
  iapply (product X Wt Sc c (anti (right (right c))) fullShare D (off15_rr c) (off16_rr c) k0_pay9 rfl) $$ H0 H1 HM
  iintro ⟨H0, H1, HM⟩
  iapply (done c)
  iapply Hk
  iframe

/-! ## The waits for the copies' sources -/

/-- The waits for the sources of the last copies. -/
theorem part16 {Q : PUnit → sProp 𝕄} :
    iprop(ctx X K ∗ (wx 0 0 c ∗ wx 1 0 c ∗ wx 2 0 c) ∗ due 14 c)
      ⊢ iprop((((semVal (sendCell 0 0 c) 0 ∗ semVal (sendCell 1 0 c) 0 ∗ semVal (sendCell 2 0 c) 0)
            ∗ (piece X c c 0 fullShare.left ∗ piece X c c 0 fullShare.right.left ∗ piece X c c 0 fullShare.right.right) ∗ due 14 c) -∗ Q ⟨⟩)
        -∗ WPc c (k0_part16 m0 h0 m1 h1 m2 h2 out3 h3 allx h4 cc0_scratch1 cc0_scratch2 c) Q) := by
  rw [k0_part16_eq_skeleton]; unfold k0_part16_skel
  simp only [Prog.lift, Prog.bind_op, Prog.bind_ret, Prog.pure_eq_ret]
  iintro ⟨#HC, ⟨W0, W1, W2⟩, HO⟩ Hk
  iapply (sent X K c c fullShare.left 0 0 (send_of 0 0) rfl rfl (sub_of c 0 (off2 c)) (sub_of c 0 (off2 c))) $$ HC W0 HO
  iintro ⟨Z0, H0, HO⟩
  iapply (sent X K c c fullShare.right.left 1 0 (send_of 1 0) rfl rfl (sub_of c 0 (off2 c)) (sub_of c 0 (off2 c))) $$ HC W1 HO
  iintro ⟨Z1, H1, HO⟩
  iapply (sent X K c c fullShare.right.right 2 0 (send_of 2 0) rfl rfl (sub_of c 0 (off2 c)) (sub_of c 0 (off2 c))) $$ HC W2 HO
  iintro ⟨Z2, H2, HO⟩
  iapply (done c)
  iapply Hk
  iframe

theorem part17 {Q : PUnit → sProp 𝕄} :
    iprop(ctx X K ∗ (wx 3 0 c ∗ wx 4 0 c ∗ wx 5 0 c) ∗ due 14 c)
      ⊢ iprop((((semVal (sendCell 3 0 c) 0 ∗ semVal (sendCell 4 0 c) 0 ∗ semVal (sendCell 5 0 c) 0)
            ∗ piece X c (left c) 0 fullShare.left ∗ (piece X c (anti c) 0 fullShare.left ∗ piece X c (anti c) 0 fullShare.right.left) ∗ due 14 c) -∗ Q ⟨⟩)
        -∗ WPc c (k0_part17 m0 h0 m1 h1 m2 h2 out3 h3 allx h4 cc0_scratch1 cc0_scratch2 c) Q) := by
  rw [k0_part17_eq_skeleton]; unfold k0_part17_skel
  simp only [Prog.lift, Prog.bind_op, Prog.bind_ret, Prog.pure_eq_ret]
  iintro ⟨#HC, ⟨W0, W1, W2⟩, HO⟩ Hk
  iapply (sent X K c (left c) fullShare.left 3 0 (send_of 3 0) rfl rfl (sub_of (left c) 0 (off5_l c)) (sub_of (left c) 0 (off5_l c))) $$ HC W0 HO
  iintro ⟨Z0, H0, HO⟩
  iapply (sent X K c (anti c) fullShare.left 4 0 (send_of 4 0) rfl rfl (sub_of (anti c) 0 (off9 c)) (sub_of (anti c) 0 (off9 c))) $$ HC W1 HO
  iintro ⟨Z1, H1, HO⟩
  iapply (sent X K c (anti c) fullShare.right.left 5 0 (send_of 5 0) rfl rfl (sub_of (anti c) 0 (off9 c)) (sub_of (anti c) 0 (off9 c))) $$ HC W2 HO
  iintro ⟨Z2, H2, HO⟩
  iapply (done c)
  iapply Hk
  iframe

theorem part18 {Q : PUnit → sProp 𝕄} :
    iprop(ctx X K ∗ (wx 6 0 c ∗ wx 0 1 c ∗ wx 1 1 c ∗ wx 2 1 c) ∗ due 14 c)
      ⊢ iprop((((semVal (sendCell 6 0 c) 0 ∗ semVal (sendCell 0 1 c) 0 ∗ semVal (sendCell 1 1 c) 0 ∗ semVal (sendCell 2 1 c) 0)
            ∗ piece X c (anti (right c)) 0 fullShare.left
            ∗ (piece X c c 1 fullShare.left ∗ piece X c c 1 fullShare.right.left ∗ piece X c c 1 fullShare.right.right) ∗ due 14 c) -∗ Q ⟨⟩)
        -∗ WPc c (k0_part18 m0 h0 m1 h1 m2 h2 out3 h3 allx h4 cc0_scratch1 cc0_scratch2 c) Q) := by
  rw [k0_part18_eq_skeleton]; unfold k0_part18_skel
  simp only [Prog.lift, Prog.bind_op, Prog.bind_ret, Prog.pure_eq_ret]
  iintro ⟨#HC, ⟨W6, W0, W1, W2⟩, HO⟩ Hk
  iapply (sent X K c (anti (right c)) fullShare.left 6 0 (send_of 6 0) rfl rfl (sub_of (anti (right c)) 0 (off13_r c)) (sub_of (anti (right c)) 0 (off13_r c))) $$ HC W6 HO
  iintro ⟨Z6, H6, HO⟩
  iapply (sent X K c c fullShare.left 0 1 (send_of 0 1) rfl rfl (sub_of c 1 (off3 c)) (sub_of c 1 (off3 c))) $$ HC W0 HO
  iintro ⟨Z0, H0, HO⟩
  iapply (sent X K c c fullShare.right.left 1 1 (send_of 1 1) rfl rfl (sub_of c 1 (off3 c)) (sub_of c 1 (off3 c))) $$ HC W1 HO
  iintro ⟨Z1, H1, HO⟩
  iapply (sent X K c c fullShare.right.right 2 1 (send_of 2 1) rfl rfl (sub_of c 1 (off3 c)) (sub_of c 1 (off3 c))) $$ HC W2 HO
  iintro ⟨Z2, H2, HO⟩
  iapply (done c)
  iapply Hk
  iframe

theorem part19 {Q : PUnit → sProp 𝕄} :
    iprop(ctx X K ∗ (wx 3 1 c ∗ wx 4 1 c ∗ wx 5 1 c) ∗ due 14 c)
      ⊢ iprop((((semVal (sendCell 3 1 c) 0 ∗ semVal (sendCell 4 1 c) 0 ∗ semVal (sendCell 5 1 c) 0)
            ∗ piece X c (left c) 1 fullShare.left ∗ (piece X c (anti c) 1 fullShare.left ∗ piece X c (anti c) 1 fullShare.right.left) ∗ due 14 c) -∗ Q ⟨⟩)
        -∗ WPc c (k0_part19 m0 h0 m1 h1 m2 h2 out3 h3 allx h4 cc0_scratch1 cc0_scratch2 c) Q) := by
  rw [k0_part19_eq_skeleton]; unfold k0_part19_skel
  simp only [Prog.lift, Prog.bind_op, Prog.bind_ret, Prog.pure_eq_ret]
  iintro ⟨#HC, ⟨W0, W1, W2⟩, HO⟩ Hk
  iapply (sent X K c (left c) fullShare.left 3 1 (send_of 3 1) rfl rfl (sub_of (left c) 1 (off6_l c)) (sub_of (left c) 1 (off6_l c))) $$ HC W0 HO
  iintro ⟨Z0, H0, HO⟩
  iapply (sent X K c (anti c) fullShare.left 4 1 (send_of 4 1) rfl rfl (sub_of (anti c) 1 (off10 c)) (sub_of (anti c) 1 (off10 c))) $$ HC W1 HO
  iintro ⟨Z1, H1, HO⟩
  iapply (sent X K c (anti c) fullShare.right.left 5 1 (send_of 5 1) rfl rfl (sub_of (anti c) 1 (off10 c)) (sub_of (anti c) 1 (off10 c))) $$ HC W2 HO
  iintro ⟨Z2, H2, HO⟩
  iapply (done c)
  iapply Hk
  iframe

end Cert.KernelIdeal.Talk

end
-- ==== Proof.Ideal.Body.lean ====
/-
  The body, run once at a symbolic device `c`: from the protocol's records, its positions, tokens and
  credit, the gather buffer and the staged operands, to every counter back at zero, the gather buffer
  held whole again, and every row of the result written.
-/
module

public import proofs.«01_k».proof.Proof.Ideal.Tail
public import Idealize.ShloMosaic.Lib.Ring

@[expose] public section

noncomputable section

namespace Cert.KernelIdeal.Talk

open Cert.Mesh Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .i8) (Wt : Dev nD → Vec F S4096x1024 .i8) (Sc : Dev nD → Vec F S1x1 .f32)
variable (K : GSem nD τ sig → ℕ) (c : Dev nD)

/-! ## The gather buffer's blocks, counted from the device that holds it -/

/-- The blocks in the order: a device's own, then the one each flow brings. -/
def rel (c j : Fin 8) : Fin 8 :=
  match j with
  | 0 => c | 1 => left c | 2 => right c | 3 => anti c | 4 => left (left c) | 5 => anti (left c)
  | 6 => anti (right c) | 7 => anti (right (right c))

theorem rel_bij : ∀ c, Function.Bijective (rel c) := by decide

/-- The eight products fill every block. -/
theorem all_blocks : ∀ c : Fin 8, (insert (anti (right (right c))) (insert (anti (left c)) (insert (left (left c)) (insert (anti (right c))
    (insert (right c) (insert (anti c) (insert (left c) (insert c ∅))))))) : Finset (Fin 8)) = Finset.univ := by decide

/-- The gather buffer held whole, block by block. -/
theorem blocks_eq (q : PosShare TreeShare) (f : S8x2x256x4096.Idx → Elt F .i8) :
    bufAt c Finset.univ q f = iprop(bufAt c (slot c) q f ∗ bufAt c (slot (left c)) q f ∗ bufAt c (slot (right c)) q f ∗ bufAt c (slot (anti c)) q f
      ∗ bufAt c (slot (left (left c))) q f ∗ bufAt c (slot (anti (left c))) q f ∗ bufAt c (slot (anti (right c))) q f
      ∗ bufAt c (slot (anti (right (right c)))) q f) := by
  rw [show bufAt c Finset.univ q f = bigSep Finset.univ fun b => bufAt c (slot b) q f from
      Ring.pointsTo_blocks (ℓ := (c : Thread nD τ).loc cc0_scratch0) slot (fun b b' h => slot_disj b b' h) slot_cover f,
    bigSep_univ_equiv (Equiv.ofBijective (rel c) (rel_bij c)) (fun b => bufAt c (slot b) q f)]
  exact bigSep_univ_eq_bigSepL [(0 : Fin 8), 1, 2, 3, 4, 5, 6, 7] (by decide) (by decide)
    (fun j => bufAt c (slot (rel c j)) q f)

/-- Both halves of a block at the gathered contents are the block. -/
theorem slot_full (b : Fin 8) (q : PosShare TreeShare) :
    iprop(piece X c b 0 q ∗ piece X c b 1 q) ⊢ bufAt c (slot b) q (AG X) :=
  Entails.of_eq (slot_split c b q (AG X)).symm

/-- The right to write a half, with the record that its cell awaits the copy, is what the sender on
    that flow needs. -/
theorem give (f : Fin 7) (s : Fin 2) (h : S8x2x256x4096.Idx → Elt F .i8) :
    iprop(bufAt c (half (rblk f c) s) fullShare h ∗ reached ER (recvCell f s c) 0) ⊢ (landing f s (src f c) : sProp 𝕄) := by
  unfold landing
  rw [tgt_src]
  iintro ⟨H, R⟩
  isplitl [H]
  · iexists h; iexact H
  · iexact R

/-- and so for both halves of the block that a flow brings. -/
theorem give2 (f : Fin 7) (h : S8x2x256x4096.Idx → Elt F .i8) :
    iprop(bufAt c (slot (rblk f c)) fullShare h ∗ reached ER (recvCell f 0 c) 0 ∗ reached ER (recvCell f 1 c) 0)
      ⊢ (iprop(landing f 0 (src f c) ∗ landing f 1 (src f c)) : sProp 𝕄) := by
  rw [slot_split]
  iintro ⟨⟨H0, H1⟩, R0, R1⟩
  isplitl [H0 R0]
  · iapply (give c f 0 h); isplitl [H0]
    · iexact H0
    · iexact R0
  · iapply (give c f 1 h); isplitl [H1]
    · iexact H1
    · iexact R1

/-! ## What a device starts and ends with -/

/-- For its copies: a position at each send cell, the token of the duty there, and that of the duty at the receiver's cell. -/
def txs (c : Dev nD) : sProp 𝕄 := iprop((tx 0 0 c ∗ tx 0 1 c) ∗ (tx 1 0 c ∗ tx 1 1 c) ∗ (tx 2 0 c ∗ tx 2 1 c) ∗ (tx 3 0 c ∗ tx 3 1 c) ∗ (tx 4 0 c ∗ tx 4 1 c) ∗ (tx 5 0 c ∗ tx 5 1 c) ∗ (tx 6 0 c ∗ tx 6 1 c))
/-- For the copies it receives: a position at each receive cell, and the credit to wait there. -/
def rxs (c : Dev nD) : sProp 𝕄 := iprop((rx 0 0 c ∗ rx 0 1 c) ∗ (rx 1 0 c ∗ rx 1 1 c) ∗ (rx 2 0 c ∗ rx 2 1 c) ∗ (rx 3 0 c ∗ rx 3 1 c) ∗ (rx 4 0 c ∗ rx 4 1 c) ∗ (rx 5 0 c ∗ rx 5 1 c) ∗ (rx 6 0 c ∗ rx 6 1 c))
/-- Each of its receive cells is in round 0. -/
def rdys (c : Dev nD) : sProp 𝕄 := iprop((reached ER (recvCell 0 0 c) 0 ∗ reached ER (recvCell 0 1 c) 0) ∗ (reached ER (recvCell 1 0 c) 0 ∗ reached ER (recvCell 1 1 c) 0) ∗ (reached ER (recvCell 2 0 c) 0 ∗ reached ER (recvCell 2 1 c) 0) ∗ (reached ER (recvCell 3 0 c) 0 ∗ reached ER (recvCell 3 1 c) 0) ∗ (reached ER (recvCell 4 0 c) 0 ∗ reached ER (recvCell 4 1 c) 0) ∗ (reached ER (recvCell 5 0 c) 0 ∗ reached ER (recvCell 5 1 c) 0) ∗ (reached ER (recvCell 6 0 c) 0 ∗ reached ER (recvCell 6 1 c) 0))
/-- Its counters are at zero: the send side's, and the receive side's. -/
def zsS (c : Dev nD) : sProp 𝕄 := iprop((semVal (sendCell 0 0 c) 0 ∗ semVal (sendCell 0 1 c) 0) ∗ (semVal (sendCell 1 0 c) 0 ∗ semVal (sendCell 1 1 c) 0) ∗ (semVal (sendCell 2 0 c) 0 ∗ semVal (sendCell 2 1 c) 0) ∗ (semVal (sendCell 3 0 c) 0 ∗ semVal (sendCell 3 1 c) 0) ∗ (semVal (sendCell 4 0 c) 0 ∗ semVal (sendCell 4 1 c) 0) ∗ (semVal (sendCell 5 0 c) 0 ∗ semVal (sendCell 5 1 c) 0) ∗ (semVal (sendCell 6 0 c) 0 ∗ semVal (sendCell 6 1 c) 0))
/-- The receive semaphores at zero. -/
def zsR (c : Dev nD) : sProp 𝕄 := iprop((semVal (recvCell 0 0 c) 0 ∗ semVal (recvCell 0 1 c) 0) ∗ (semVal (recvCell 1 0 c) 0 ∗ semVal (recvCell 1 1 c) 0) ∗ (semVal (recvCell 2 0 c) 0 ∗ semVal (recvCell 2 1 c) 0) ∗ (semVal (recvCell 3 0 c) 0 ∗ semVal (recvCell 3 1 c) 0) ∗ (semVal (recvCell 4 0 c) 0 ∗ semVal (recvCell 4 1 c) 0) ∗ (semVal (recvCell 5 0 c) 0 ∗ semVal (recvCell 5 1 c) 0) ∗ (semVal (recvCell 6 0 c) 0 ∗ semVal (recvCell 6 1 c) 0))
/-- For one signal: the record that the peer's barrier is in round 0, and the token of the duty there. -/
def bx (k : Fin 3) (e : Dev nD) : sProp 𝕄 := iprop(reached ER (barCell e) 0 ∗ dutyTok ER (barCell e) 0 k)

/-- What the body's three signals hand over: the blocks that the peers' copies write. -/
theorem signals (f : S8x2x256x4096.Idx → Elt F .i8) :
    iprop(bufAt c Finset.univ fullShare f ∗ rdys c ∗ bx 1 (left c) ∗ bx 0 (right c) ∗ bx 2 (anti c))
      ⊢ (iprop(bufAt c (slot c) fullShare f ∗ sg 1 (left c) ∗ sg 0 (right c) ∗ sg 2 (anti c)) : sProp 𝕄) := by
  rw [blocks_eq]
  unfold rdys bx sg
  rw [barPay_0, barPay_1, barPay_2]
  iintro ⟨⟨H, B0, B1, B2, B3, B4, B5, B6⟩, ⟨R0, R1, R2, R3, R4, R5, R6⟩, ⟨L0, L1⟩, ⟨M0, M1⟩, N0, N1⟩
  ihave B0 := (give2 c 0 f) $$ [B0 R0]
  · isplitl [B0]
    · iexact B0
    · iexact R0
  ihave B1 := (give2 c 1 f) $$ [B1 R1]
  · isplitl [B1]
    · iexact B1
    · iexact R1
  ihave B2 := (give2 c 2 f) $$ [B2 R2]
  · isplitl [B2]
    · iexact B2
    · iexact R2
  ihave B3 := (give2 c 3 f) $$ [B3 R3]
  · isplitl [B3]
    · iexact B3
    · iexact R3
  ihave B4 := (give2 c 4 f) $$ [B4 R4]
  · isplitl [B4]
    · iexact B4
    · iexact R4
  ihave B5 := (give2 c 5 f) $$ [B5 R5]
  · isplitl [B5]
    · iexact B5
    · iexact R5
  ihave B6 := (give2 c 6 f) $$ [B6 R6]
  · isplitl [B6]
    · iexact B6
    · iexact R6
  icases B6 with ⟨B60, B61⟩
  icases B4 with ⟨B40, B41⟩
  icases B2 with ⟨B20, B21⟩
  isplitl [H]; · iexact H
  isplitl [L0 L1 B0 B3 B40 B41]
  · isplitl [L0]; · iexact L0
    isplitl [L1]; · iexact L1
    isplitl [B0]; · iexact B0
    isplitl [B3]; · iexact B3
    isplitl [B40]
    · iexact B40
    · iexact B41
  isplitl [M0 M1 B1 B5 B60 B61]
  · isplitl [M0]; · iexact M0
    isplitl [M1]; · iexact M1
    isplitl [B1]; · iexact B1
    isplitl [B5]; · iexact B5
    isplitl [B60]
    · iexact B60
    · iexact B61
  isplitl [N0]; · iexact N0
  isplitl [N1]; · iexact N1
  isplitl [B20]
  · iexact B20
  · iexact B21

/-- A half that two copies read, and one that one copy reads, each held whole again. -/
theorem join3 (b : Fin 8) (s : Fin 2) :
    iprop(piece X c b s fullShare.left ∗ piece X c b s fullShare.right.left ∗ piece X c b s fullShare.right.right) ⊢ piece X c b s fullShare := by
  iintro ⟨H0, H1, H2⟩
  ihave H := (piece_join X c b s fullShare.right) $$ [H1 H2]
  · isplitl [H1]
    · iexact H1
    · iexact H2
  iapply (piece_join X c b s fullShare)
  isplitl [H0]
  · iexact H0
  · iexact H

/-- The body's last stretch, the waits for the copies' sources, after which the blocks that were read from are whole again. -/
theorem body_tail {Q : PUnit → sProp 𝕄} {hs hd} :
    iprop(ctx X K ∗ wx 6 1 c ∗ due 14 c)
      ⊢ iprop(((semVal (sendCell 6 1 c) 0 ∗ piece X c (anti (right c)) 1 fullShare.left ∗ due 14 c) -∗ Q ⟨⟩)
        -∗ WPc c (.op (.waitDma2 ((cc0_scratch1.slice (Rect.unit (s := S7x2) ![6, 1] S1x1.size inb_S7x2_S1x1_6_1)).squeeze S_ squeezes_S1x1_S_).sem
            ((allx.slice (Rect.unit (s := S8x2x256x4096) (k0_off14 c 1#32) S1x1x256x4096.size (k0_off14_inb c 0)) (fun _ => rfl)).squeeze S256x4096 squeezes_S1x1x256x4096_S256x4096)
            ((allx.slice (Rect.unit (s := S8x2x256x4096) (k0_off14 c 1#32) S1x1x256x4096.size (k0_off14_inb c 0)) (fun _ => rfl)).squeeze S256x4096 squeezes_S1x1x256x4096_S256x4096)
            hs hd) fun _ => .ret ⟨⟩) Q) := by
  iintro ⟨#HC, W, HO⟩ Hk
  iapply (sent X K c (anti (right c)) fullShare.left 6 1 (send_of 6 1) rfl rfl (sub_of (anti (right c)) 1 (off14_r c)) (sub_of (anti (right c)) 1 (off14_r c))) $$ HC W HO
  iintro ⟨Z, H, HO⟩
  iapply (done c)
  iapply Hk
  iframe

/-- THE BODY. -/
theorem body_run (f : S8x2x256x4096.Idx → Elt F .i8) {Q : PUnit → sProp 𝕄} :
    iprop(ctx X K ∗ (bx 1 (left c) ∗ bx 0 (right c) ∗ bx 2 (anti c)) ∗ (atPos ER (barCell c) 0 ∅ 0 ∗ cred (tallyAt (barCell c) () 3))
        ∗ txs c ∗ rxs c ∗ rdys c ∗ bufAt c Finset.univ fullShare f ∗ inX X c ∗ mul X Wt Sc ∅ c ∗ owes' c (O₀ c))
      ⊢ iprop(((semVal (barCell c) 0 ∗ zsS c ∗ zsR c ∗ bufAt c Finset.univ fullShare (AG X) ∗ inX X c ∗ mul X Wt Sc Finset.univ c ∗ due 14 c) -∗ Q ⟨⟩)
        -∗ WPc c (cc0_body m0 h0 m1 h1 m2 h2 out3 h3 allx h4 cc0_scratch1 cc0_scratch2) Q) := by
  rw [cc0_body_eq_skeleton]; unfold cc0_body_skel txs rxs
  simp only [Prog.lift, Prog.bind_op, Prog.bind_ret, Prog.pure_eq_ret, wp_bind]
  iintro ⟨#HC, ⟨B1, B0, B2⟩, HB, ⟨⟨T00, T01⟩, ⟨T10, T11⟩, ⟨T20, T21⟩, ⟨T30, T31⟩, ⟨T40, T41⟩, ⟨T50, T51⟩, T60, T61⟩,
    ⟨⟨R00, R01⟩, ⟨R10, R11⟩, ⟨R20, R21⟩, ⟨R30, R31⟩, ⟨R40, R41⟩, ⟨R50, R51⟩, R60, R61⟩, HR, Hbuf, HX, HM, HO⟩ Hk
  ihave S := (signals c f) $$ [Hbuf HR B1 B0 B2]
  · iframe
  icases S with ⟨Hs, S1, S0, S2⟩
  iapply (part1 X K c) $$ [S1 S0 S2 HO]
  · iframe; iexact HC
  iintro %v2 %v7 %v10 %v12 %v15 %v17 %v19 %v21 HO
  dsimp only
  iapply (part2 X K c f v2 v7 v10) $$ [HB HX Hs T00 HO]
  · iframe; iexact HC
  iintro ⟨Zb, P0, L01, ⟨L30, L31⟩, ⟨L40, L41⟩, P2, HX, W00, C0, C1, HO⟩
  ihave P0 := (Entails.of_eq (barPay_0 c)) $$ P0
  ihave P2 := (Entails.of_eq (barPay_2 c)) $$ P2
  icases P0 with ⟨⟨L10, L11⟩, ⟨L50, L51⟩, L60, L61⟩
  icases P2 with ⟨L20, L21⟩
  iapply (part3 X K c v7 v10 v12) $$ [T10 T20 T01 L10 L20 L01 C0 C1 HO]
  · iframe; iexact HC
  iintro ⟨⟨W10, W20, W01⟩, C1, HO⟩
  iapply (part4 X Wt Sc K c ∅ v2 v12) $$ [T11 T21 L11 L21 C1 HX HM HO]
  · iframe; iexact HC
  iintro ⟨⟨W11, W21⟩, HX, HM, HO⟩
  iapply (part5 X K c v7) $$ [R00 T30 L30 HO]
  · iframe; iexact HC
  iintro ⟨Z00, W30, A0, HO⟩
  iapply (part6 X Wt Sc K c _ v7 v10 v12) $$ [R01 T31 L31 A0 HM HO]
  · iframe; iexact HC
  iintro ⟨Z01, W31, ⟨A0, A1⟩, HM, HO⟩
  iapply (part7 X K c v7 v10) $$ [R20 T40 T50 L40 L50 HO]
  · iframe; iexact HC
  iintro ⟨Z20, ⟨W40, W50⟩, D0, HO⟩
  iapply (part8 X K c v7 v10 v12) $$ [R21 T41 L41 HO]
  · iframe; iexact HC
  iintro ⟨Z21, W41, D1, HO⟩
  iapply (part9 X Wt Sc K c _ v10 v12) $$ [T51 L51 D0 D1 HM R10 HO]
  · iframe; iexact HC
  iintro %z ⟨W51, ⟨D0, D1⟩, HM, Z10, E0, HO⟩
  iapply (part10 X Wt Sc K c _ v7 v10 z.1 z.2) $$ [R11 R50 E0 HM HO]
  · iframe; iexact HC
  iintro ⟨Z11, Z50, ⟨E0, E1⟩, HM, G0, HO⟩
  iapply (part11 X K c v10) $$ [T60 L60 G0 R51 HO]
  · iframe; iexact HC
  iintro ⟨W60, Z51, G0, G1, HO⟩
  iapply (part12 X Wt Sc K c _ v7 v19) $$ [T61 L61 G0 G1 HM R30 HO]
  · iframe; iexact HC
  iintro %z' ⟨W61, ⟨G0, G1⟩, HM, Z30, I0, HO⟩
  iapply (part13 X Wt Sc K c _ v7 v15 z') $$ [R31 I0 HM HO]
  · iframe; iexact HC
  iintro ⟨Z31, ⟨I0, I1⟩, HM, HO⟩
  iapply (part14 X Wt Sc K c _ v7 v10 v17) $$ [R40 R41 HM HO]
  · iframe; iexact HC
  iintro ⟨⟨Z40, Z41⟩, ⟨J0, J1⟩, HM, HO⟩
  iapply (part15 X Wt Sc K c _ v10 v21) $$ [R60 R61 HM HO]
  · iframe; iexact HC
  iintro ⟨⟨Z60, Z61⟩, ⟨M0, M1⟩, HM, HO⟩
  iapply (part16 X K c) $$ [W00 W10 W20 HO]
  · iframe; iexact HC
  iintro ⟨⟨Y00, Y10, Y20⟩, ⟨C0, C0', C0''⟩, HO⟩
  iapply (part17 X K c) $$ [W30 W40 W50 HO]
  · iframe; iexact HC
  iintro ⟨⟨Y30, Y40, Y50⟩, A0', ⟨D0', D0''⟩, HO⟩
  iapply (part18 X K c) $$ [W60 W01 W11 W21 HO]
  · iframe; iexact HC
  iintro ⟨⟨Y60, Y01, Y11, Y21⟩, G0', ⟨C1, C1', C1''⟩, HO⟩
  iapply (part19 X K c) $$ [W31 W41 W51 HO]
  · iframe; iexact HC
  iintro ⟨⟨Y31, Y41, Y51⟩, A1', ⟨D1', D1''⟩, HO⟩
  iapply (body_tail X K c) $$ [W61 HO]
  · iframe; iexact HC
  iintro ⟨Y61, G1', HO⟩
  ihave C0 := (join3 X c c 0) $$ [C0 C0' C0'']
  · iframe
  ihave C1 := (join3 X c c 1) $$ [C1 C1' C1'']
  · iframe
  ihave D0 := (join3 X c (anti c) 0) $$ [D0 D0' D0'']
  · iframe
  ihave D1 := (join3 X c (anti c) 1) $$ [D1 D1' D1'']
  · iframe
  ihave A0 := (piece_join X c (left c) 0 fullShare) $$ [A0 A0']
  · iframe
  ihave A1 := (piece_join X c (left c) 1 fullShare) $$ [A1 A1']
  · iframe
  ihave G0 := (piece_join X c (anti (right c)) 0 fullShare) $$ [G0 G0']
  · iframe
  ihave G1 := (piece_join X c (anti (right c)) 1 fullShare) $$ [G1 G1']
  · iframe
  ihave C := (slot_full X c c fullShare) $$ [C0 C1]
  · iframe
  ihave A := (slot_full X c (left c) fullShare) $$ [A0 A1]
  · iframe
  ihave E := (slot_full X c (right c) fullShare) $$ [E0 E1]
  · iframe
  ihave D := (slot_full X c (anti c) fullShare) $$ [D0 D1]
  · iframe
  ihave I := (slot_full X c (left (left c)) fullShare) $$ [I0 I1]
  · iframe
  ihave J := (slot_full X c (anti (left c)) fullShare) $$ [J0 J1]
  · iframe
  ihave G := (slot_full X c (anti (right c)) fullShare) $$ [G0 G1]
  · iframe
  ihave M := (slot_full X c (anti (right (right c))) fullShare) $$ [M0 M1]
  · iframe
  ihave HM := (Entails.of_eq (congrArg (fun D => mul X Wt Sc D c) (all_blocks c))) $$ HM
  iapply Hk
  rw [blocks_eq]
  unfold zsS zsR
  iframe

end Cert.KernelIdeal.Talk

end
-- ==== Proof.Ideal.Data.lean ====
/-
  The kernel call as a step of the program: what its windows hold, what its invariant is before and
  after its one point, and that the body, run once for any device, keeps it.
-/
module

public import proofs.«01_k».proof.Proof.Ideal.Body
public import proofs.«01_k».proof.Proof.Gen.KernelIdeal.Frame
public import Idealize.ShloMosaic.Lib.Pipeline.RegionTalk
public import Idealize.ShloMosaic.Lib.Pipeline.ValueKit

@[expose] public section

noncomputable section

namespace Cert.KernelIdeal.Talk

open Cert.Mesh Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the call finds -/

/-- A device's buffers when the call begins: the launch's, with the host's operations done. -/
abbrev V₁ (c : Dev nD) : Valuation τ sig (Elt F) := StableHlo.after hostOps0 (fun b => m (c, b))

/-- Device `c`'s rows of `x`, its columns of `w`, and its scale. -/
def Xm (c : Dev nD) : Vec F S512x4096 .i8 := V m c main_arg0
def Wm (c : Dev nD) : Vec F S4096x1024 .i8 := V m c main_arg1
def Sm (c : Dev nD) : Vec F S1x1 .f32 := V m c main_v4
/-- Device `c`'s result. -/
def Rm (c : Dev nD) : Vec F S4096x1024 .f32 := res (Xm m) (Wm m) (Sm m) c

/-- The one block of each operand's window is the whole operand. -/
theorem blk_0 (c : Dev nD) (t : Fin cfg0.N) : iblk m c 0 t = Xm m c := by
  obtain rfl := fin_N0 t
  funext j
  show V m c main_arg0 (((cfg0.win 0).blk t0_0).view.emb j) = V m c main_arg0 j
  refine congrArg _ (funext fun a => Fin.ext ?_)
  exact Pipeline.Window.rect_emb_val_of_index_zero _ _ _ ((by decide +kernel : ∀ a, (cfg0.win 0).index t0_0 a = 0) a) j
theorem blk_1 (c : Dev nD) (t : Fin cfg0.N) : iblk m c 1 t = Wm m c := by
  obtain rfl := fin_N0 t
  funext j
  show V m c main_arg1 (((cfg0.win 1).blk t0_0).view.emb j) = V m c main_arg1 j
  refine congrArg _ (funext fun a => Fin.ext ?_)
  exact Pipeline.Window.rect_emb_val_of_index_zero _ _ _ ((by decide +kernel : ∀ a, (cfg0.win 1).index t0_0 a = 0) a) j
theorem blk_2 (c : Dev nD) (t : Fin cfg0.N) : iblk m c 2 t = Sm m c := by
  obtain rfl := fin_N0 t
  funext j
  show V m c main_v4 (((cfg0.win 2).blk t0_0).view.emb j) = V m c main_v4 j
  refine congrArg _ (funext fun a => Fin.ext ?_)
  exact Pipeline.Window.rect_emb_val_of_index_zero _ _ _ ((by decide +kernel : ∀ a, (cfg0.win 2).index t0_0 a = 0) a) j

/-! ## The call's invariant -/

/-- What a device brings of the protocol, its cells open. -/
def ready (c : Dev nD) : sProp 𝕄 :=
  iprop(∃ K, ctx (Xm m) K ∗ (bx 1 (left c) ∗ bx 0 (right c) ∗ bx 2 (anti c)) ∗ (atPos ER (barCell c) 0 ∅ 0 ∗ cred (tallyAt (barCell c) () 3))
    ∗ txs c ∗ rxs c ∗ rdys c)

/-- The gather buffer at contents not chosen. -/
abbrev scratchAny (c : Dev nD) : sProp 𝕄 := iprop(∃ f : Buf (Elt F) ((c : Thread nD τ).loc cc0_scratch0), ((c : Thread nD τ).loc cc0_scratch0) ↦{fullShare} f)

/-- Before the body: what the protocol needs, the gather buffer, the generator's register. -/
def Φ₀ (c : Dev nD) : sProp 𝕄 := iprop(ready m c ∗ scratchAny c ∗ ∃ r, prngReg c r)
/-- After it: every semaphore back at zero. -/
def Φ₁ (c : Dev nD) : sProp 𝕄 := iprop(semVal (barCell c) 0 ∗ (zsS c ∗ zsR c) ∗ scratchAny c ∗ ∃ r, prngReg c r)

/-- The call's data on device `c`. -/
def dat (c : Dev nD) : Dat τ (Elt F) Unit ℕ UU ℕ cfg0 c where
  A w := V m c (Pipeline.arrRef spec0 w)
  after w _ := match w with
    | 0 => Xm m c
    | 1 => Wm m c
    | 2 => Sm m c
    | 3 => Rm m c
    | ⟨_ + 4, h⟩ => absurd h (Nat.not_lt.2 (Nat.le_add_left _ _))
  Φ t := if t.val = 0 then Φ₀ m c else Φ₁ c
  q _ := fullShare
  owed t := if t.val = 0 then O₀ c else 0

/-- What the body finds staged. -/
theorem before_0 (c : Dev nD) (t : Fin cfg0.N) (d) : (dat m c).before 0 t d = Xm m c :=
  ((dat m c).before_in_eq_fetched 0 rfl (fun _ => rfl) (fun _ _ _ => rfl) (fun t => (blk_0 m c t).symm) t d).trans (blk_0 m c t)
theorem before_1 (c : Dev nD) (t : Fin cfg0.N) (d) : (dat m c).before 1 t d = Wm m c :=
  ((dat m c).before_in_eq_fetched 1 rfl (fun _ => rfl) (fun _ _ _ => rfl) (fun t => (blk_1 m c t).symm) t d).trans (blk_1 m c t)
theorem before_2 (c : Dev nD) (t : Fin cfg0.N) (d) : (dat m c).before 2 t d = Sm m c :=
  ((dat m c).before_in_eq_fetched 2 rfl (fun _ => rfl) (fun _ _ _ => rfl) (fun t => (blk_2 m c t).symm) t d).trans (blk_2 m c t)

/-- What is owed at the start and at the end. -/
theorem owed_first (c : Dev nD) : (dat m c).owed t0_0.castSucc = O₀ c := by
  show (if (t0_0.castSucc : Fin (cfg0.N + 1)).val = 0 then O₀ c else 0) = O₀ c
  exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]
/-- The invariant at the start and at the end. -/
theorem Φ_first (c : Dev nD) : (dat m c).Φ t0_0.castSucc = Φ₀ m c := by
  show (if (t0_0.castSucc : Fin (cfg0.N + 1)).val = 0 then Φ₀ m c else Φ₁ c) = Φ₀ m c
  exact if_pos rfl
theorem Φ_last (c : Dev nD) : (dat m c).Φ (Fin.last _) = Φ₁ c := by
  show (if (Fin.last cfg0.N).val = 0 then Φ₀ m c else Φ₁ c) = Φ₁ c
  rw [Fin.val_last, if_neg (by rw [show cfg0.N = 1 from N_0]; decide)]

/-- A core that owes the invariant's units owes what the pipeline says, and back. -/
theorem owesAt_of (c : Dev nD) (t : Fin (cfg0.N + 1)) (O : CellTallies nD τ sig Unit) (h : (dat m c).owed t = O) :
    owes' c O ⊢ ((dat m c).owesAt () t : sProp 𝕄) := by
  unfold Dat.owesAt Pipeline.owesWithin Dat.bound
  rw [h]
  iintro ⟨%W, HO⟩
  iexists W
  isplitr
  · ipureintro; exact fun _ _ => Or.inl trivial
  · iexact HO
/-- The same, read backwards. -/
theorem of_owesAt (c : Dev nD) (t : Fin (cfg0.N + 1)) (O : CellTallies nD τ sig Unit) (h : (dat m c).owed t = O) :
    ((dat m c).owesAt () t : sProp 𝕄) ⊢ owes' c O := by
  unfold Dat.owesAt Pipeline.owesWithin
  rw [h]
  iintro ⟨%W, -, HO⟩
  iexists W
  iexact HO

/-- After the last copy nothing is owed. -/
theorem due_all (c : Dev nD) : due (F := F) 14 c = owes' c 0 := rfl

/-! ## The body keeps the invariant -/

/-- A staging buffer at contents `Y`, the contents named. -/
abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

/-- What the body starts from. -/
def bodyPre (c : Dev nD) : sProp 𝕄 :=
  iprop((dat m c).Φ t0_0.castSucc ∗ (dat m c).owesAt () t0_0.castSucc
    ∗ (∃ d, stg c cc0_stg0_0 ((dat m c).before (0 : Fin 4) t0_0 d))
    ∗ (∃ d, stg c cc0_stg1_0 ((dat m c).before (1 : Fin 4) t0_0 d))
    ∗ (∃ d, stg c cc0_stg2_0 ((dat m c).before (2 : Fin 4) t0_0 d))
    ∗ (∃ d, stg c cc0_stg3_0 ((dat m c).before (3 : Fin 4) t0_0 d)))
/-- What the body leaves. -/
def bodyPost (c : Dev nD) : sProp 𝕄 :=
  iprop((dat m c).Φ (Fin.last _) ∗ (dat m c).owesAt () (Fin.last _)
    ∗ stg c cc0_stg0_0 (Xm m c) ∗ stg c cc0_stg1_0 (Wm m c) ∗ stg c cc0_stg2_0 (Sm m c) ∗ stg c cc0_stg3_0 (Rm m c))

/-- The body from the call's state before its point to its state after. -/
theorem body_keeps (c : Dev nD) : bodyPre m c ⊢ WPc c (cc0_body m0 h0 m1 h1 m2 h2 out3 h3 allx h4 cc0_scratch1 cc0_scratch2) (fun _ => bodyPost m c) := by
  unfold bodyPre bodyPost
  rw [Φ_first, Φ_last]
  unfold Φ₀ Φ₁ ready
  iintro ⟨⟨⟨%K, #HC, HB, HA, HT, HR, HD⟩, ⟨%f, Hf⟩, Hp⟩, HO, ⟨%d0, %x0, %e0, H0⟩, ⟨%d1, %x1, %e1, H1⟩, ⟨%d2, %x2, %e2, H2⟩, ⟨%d3, %x3, -, H3⟩⟩
  rw [before_0] at e0
  rw [before_1] at e1
  rw [before_2] at e2
  subst e0 e1 e2
  ihave HO := (of_owesAt m c _ (O₀ c) (owed_first m c)) $$ HO
  iapply (body_run (Xm m) (Wm m) (Sm m) K c f) $$ [HB HA HT HR HD Hf H0 H1 H2 H3 HO]
  · unfold mul outAt
    iframe
    isplitr; · iexact HC
    iexists x3
    isplitr
    · ipureintro; exact fun i hi => absurd hi (Finset.notMem_empty _)
    · iexact H3
  unfold mul outAt
  iintro ⟨Hb, HS, HV, Hf, H0, ⟨H1, H2, ⟨%g, %hg, H3⟩⟩, HO⟩
  isplitl [Hb HS HV Hf Hp]
  · isplitl [Hb]; · iexact Hb
    isplitl [HS HV]
    · isplitl [HS]
      · iexact HS
      · iexact HV
    isplitl [Hf]
    · iexists _; iexact Hf
    · iexact Hp
  isplitl [HO]
  · iapply (owesAt_of m c _ 0 (owed_last m c))
    iapply (Entails.of_eq (due_all c)) $$ HO
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists g
  isplitr
  · ipureintro; funext i; exact hg i (Finset.mem_univ _)
  · iexact H3

set_option maxRecDepth 40000 in
/-- The same as the pipeline asks for it. -/
theorem body_obligation (c : Dev nD) : BodyObligation (dat m c) (defs₀ (F := F)) 𝒱₀ () Set.univ := fun t => by
  obtain rfl := fin_N0 t
  rw [bigSep_W0, bigSep_W0]
  simp only [owns_whole_eq]
  show bodyPre m c ⊢ WPc c (cc0_body m0 h0 m1 h1 m2 h2 out3 h3 allx h4 cc0_scratch1 cc0_scratch2) (fun _ => bodyPost m c)
  exact body_keeps m c

end Cert.KernelIdeal.Talk

end
-- ==== Proof.Ideal.Region.lean ====
/-
  The kernel call as a region of the program: what a device brings to it from the launch, how its
  copies' cells are opened at the call's entry, and what it leaves.
-/
module

public import proofs.«01_k».proof.Proof.Ideal.Data

@[expose] public section

noncomputable section

namespace Cert.KernelIdeal.Talk

open Cert.Mesh Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Flows and halves, listed -/

/-- Two families, each held for every index, held together, and back. -/
theorem both {ι : Type} {S : Finset ι} (Φ Ψ : ι → sProp 𝕄) : iprop(bigSep S Φ ∗ bigSep S Ψ) ⊢ bigSep S fun x => iprop(Φ x ∗ Ψ x) :=
  Entails.of_eq (bigSep_sep' ..).symm
/-- A conjunction over pairs, taken apart. -/
theorem each {ι : Type} {S : Finset ι} (Φ Ψ : ι → sProp 𝕄) : (bigSep S fun x => iprop(Φ x ∗ Ψ x)) ⊢ iprop(bigSep S Φ ∗ bigSep S Ψ) :=
  Entails.of_eq (bigSep_sep' ..)

/-- Something for each half of each flow, listed. -/
theorem flows_eq (Φ : Fin 7 → Fin 2 → sProp 𝕄) :
    bigSep Finset.univ (fun x : Fin 7 × Fin 2 => Φ x.1 x.2)
      = iprop((Φ 0 0 ∗ Φ 0 1) ∗ (Φ 1 0 ∗ Φ 1 1) ∗ (Φ 2 0 ∗ Φ 2 1) ∗ (Φ 3 0 ∗ Φ 3 1) ∗ (Φ 4 0 ∗ Φ 4 1) ∗ (Φ 5 0 ∗ Φ 5 1) ∗ (Φ 6 0 ∗ Φ 6 1)) := by
  rw [bigSep_univ_prod, bigSep_congr (s := Finset.univ) (Ψ := fun f : Fin 7 => iprop(Φ f 0 ∗ Φ f 1)) (fun f _ => bigSep_fin_two _)]
  exact bigSep_univ_eq_bigSepL [(0 : Fin 7), 1, 2, 3, 4, 5, 6] (by decide) (by decide) _

/-- The counters of a device's copies: the send bank's and the receive bank's. -/
theorem ownSems_eq (c : Dev nD) : (Pipeline.ownSems0 osem c : sProp 𝕄)
    = iprop((bigSep Finset.univ fun x : Fin 7 × Fin 2 => semVal (sendCell x.1 x.2 c) 0)
        ∗ bigSep Finset.univ fun x : Fin 7 × Fin 2 => semVal (recvCell x.1 x.2 c) 0) := by
  unfold Pipeline.ownSems0
  rw [bigSep_univ_prod]
  exact bigSep_fin_two (fun k : Fin 2 => bigSep Finset.univ fun x : Fin 7 × Fin 2 => (semVal ((c : Thread nD τ), osem (k, x)) 0 : sProp 𝕄))

/-! ## From the launch to the call -/

/-- What every device may consult from the launch on: the invariants of all cells, and that every barrier is in round 0. -/
def records (K : GSem nD τ sig → ℕ) : sProp 𝕄 :=
  iprop((bigSep (barCells ∪ copyCells) fun g => cellInv ER (Rd (Xm m)) (K g) g) ∗ bigSep barCells fun g => reached ER g 0)

/-- The records may be used any number of times. -/
instance records_persistent (K : GSem nD τ sig → ℕ) : BI.Persistent (records m K) := by unfold records; infer_instance

/-- A barrier's round 0 is reached. -/
theorem reached_bar (c : Dev nD) : (bigSep barCells fun g => (reached ER g 0 : sProp 𝕄)) ⊢ reached ER (barCell c) 0 :=
  bigSep_elim (Finset.mem_map_of_mem barEmb (Finset.mem_univ c))

/-- A device's three signals: the tokens of the duties it pays with them. -/
def barToks (c : Dev nD) : sProp 𝕄 :=
  iprop(dutyTok ER (barCell (right c)) 0 0 ∗ dutyTok ER (barCell (left c)) 0 1 ∗ dutyTok ER (barCell (anti c)) 0 2)
/-- For one copy: the rights to open its send cell and the own receive cell, and the tokens of its two duties. -/
def shut (f : Fin 7) (s : Fin 2) (c : Dev nD) : sProp 𝕄 :=
  iprop((openTok ER (sendCell f s c) ∗ openTok ER (recvCell f s c))
    ∗ dutyTok ER (sendCell f s c) 0 0 ∗ dutyTok ER (recvCell f s (tgt f c)) 0 0)
/-- What is one device's own of the protocol from the launch on. -/
def linear (c : Dev nD) : sProp 𝕄 :=
  iprop(atPos ER (barCell c) 0 ∅ 0 ∗ barToks c ∗ bigSep Finset.univ fun x : Fin 7 × Fin 2 => shut x.1 x.2 c)
/-- The credit it waits with: for three signals, and for fourteen landings. -/
def credits (c : Dev nD) : sProp 𝕄 :=
  iprop(cred (tallyAt (barCell c) () 3) ∗ bigSep Finset.univ fun x : Fin 7 × Fin 2 => cred (tallyAt (recvCell x.1 x.2 c) () NB))

/-- What a device brings to the call from the launch. -/
def Tk (c : Dev nD) : sProp 𝕄 := iprop((∃ K, records m K ∗ linear c) ∗ credits c)

/-- The invariant of one cell, out of all. -/
theorem inv_at (K : GSem nD τ sig → ℕ) {g : GSem nD τ sig} (hg : g ∈ barCells ∪ copyCells) :
    (bigSep (barCells ∪ copyCells) fun g => (cellInv ER (Rd (Xm m)) (K g) g : sProp 𝕄)) ⊢ cellInv ER (Rd (Xm m)) (K g) g :=
  bigSep_elim hg

/-- One copy's two cells, opened with their counters at zero. -/
theorem open_one (K : GSem nD τ sig → ℕ) (c : Dev nD) (f : Fin 7) (s : Fin 2) :
    iprop((bigSep (barCells ∪ copyCells) fun g => cellInv ER (Rd (Xm m)) (K g) g)
        ∗ (shut f s c ∗ semVal (sendCell f s c) 0 ∗ semVal (recvCell f s c) 0 ∗ cred (tallyAt (recvCell f s c) () NB)))
      ⊢ (|={Set.univ}=> iprop(tx f s c ∗ rx f s c ∗ reached ER (recvCell f s c) 0) : sProp 𝕄) := by
  unfold shut tx rx
  iintro ⟨#HI, ⟨⟨HoS, HoR⟩, HtS, HtR⟩, HvS, HvR, Hc⟩
  imod (Rounds.cell_open ER (Rd (Xm m)) (g := sendCell f s c) (Set.mem_univ (K (sendCell f s c)))) $$ [HoS HvS] with ⟨HaS, #HrS⟩
  · isplitr; · iapply (inv_at m K (send_mem f s c)); iexact HI
    isplitl [HoS]
    · iexact HoS
    · iexact HvS
  imod (Rounds.cell_open ER (Rd (Xm m)) (g := recvCell f s c) (Set.mem_univ (K (recvCell f s c)))) $$ [HoR HvR] with ⟨HaR, #HrR⟩
  · isplitr; · iapply (inv_at m K (recv_mem f s c)); iexact HI
    isplitl [HoR]
    · iexact HoR
    · iexact HvR
  imodintro
  isplitl [HaS HtS HtR]
  · isplitl [HaS]; · iexact HaS
    isplitr; · iexact HrS
    isplitl [HtS]
    · iexact HtS
    · iexact HtR
  isplitl [HaR Hc]
  · isplitl [HaR]
    · iexact HaR
    · iexact Hc
  iexact HrR

/-- All of a device's copies' cells, opened. -/
theorem open_all (K : GSem nD τ sig → ℕ) (c : Dev nD) :
    iprop((bigSep (barCells ∪ copyCells) fun g => cellInv ER (Rd (Xm m)) (K g) g)
        ∗ (bigSep Finset.univ fun x : Fin 7 × Fin 2 => shut x.1 x.2 c) ∗ Pipeline.ownSems0 osem c
        ∗ bigSep Finset.univ fun x : Fin 7 × Fin 2 => cred (tallyAt (recvCell x.1 x.2 c) () NB))
      ⊢ (|={Set.univ}=> iprop(txs c ∗ rxs c ∗ rdys c) : sProp 𝕄) := by
  have hall : iprop((bigSep (barCells ∪ copyCells) fun g => cellInv ER (Rd (Xm m)) (K g) g)
        ∗ bigSep Finset.univ fun x : Fin 7 × Fin 2 =>
          iprop(shut x.1 x.2 c ∗ semVal (sendCell x.1 x.2 c) 0 ∗ semVal (recvCell x.1 x.2 c) 0 ∗ cred (tallyAt (recvCell x.1 x.2 c) () NB)))
      ⊢ (|={Set.univ}=> bigSep Finset.univ fun x : Fin 7 × Fin 2 => iprop(tx x.1 x.2 c ∗ rx x.1 x.2 c ∗ reached ER (recvCell x.1 x.2 c) 0) : sProp 𝕄) :=
    (bigSep_with_persistent (R := (bigSep (barCells ∪ copyCells) fun g => cellInv ER (Rd (Xm m)) (K g) g : sProp 𝕄))
      (Φ := fun x : Fin 7 × Fin 2 => iprop(shut x.1 x.2 c ∗ semVal (sendCell x.1 x.2 c) 0 ∗ semVal (recvCell x.1 x.2 c) 0 ∗ cred (tallyAt (recvCell x.1 x.2 c) () NB)))
      fun x _ => open_one m K c x.1 x.2).trans (bigSep_fupd _ _)
  have hlist : (bigSep Finset.univ fun x : Fin 7 × Fin 2 => iprop(tx x.1 x.2 c ∗ rx x.1 x.2 c ∗ reached ER (recvCell x.1 x.2 c) 0) : sProp 𝕄)
      ⊢ iprop(txs c ∗ rxs c ∗ rdys c) := by
    rw [bigSep_sep', bigSep_sep', flows_eq (fun f s => tx f s c), flows_eq (fun f s => rx f s c), flows_eq (fun f s => reached ER (recvCell f s c) 0)]
    exact Entails.rfl
  rw [ownSems_eq]
  iintro ⟨#HI, HS, ⟨HvS, HvR⟩, HC⟩
  imod hall $$ [HS HvS HvR HC] with H
  · isplitr; · iexact HI
    iapply (both _ _); isplitl [HS]; · iexact HS
    iapply (both _ _); isplitl [HvS]; · iexact HvS
    iapply (both _ _); isplitl [HvR]
    · iexact HvR
    · iexact HC
  imodintro
  iapply hlist $$ H

/-- The call's entry. -/
theorem enter (c : Dev nD) : iprop(Tk m c ∗ Pipeline.ownSems0 osem c ∗ levAts L lv) ⊢ (|={Set.univ}=> ready m c : sProp 𝕄) := by
  unfold Tk ready records linear credits barToks ctx bx
  iintro ⟨⟨⟨%K, ⟨#HI, #HR⟩, Ha, ⟨Ht0, Ht1, Ht2⟩, HS⟩, HcB, HC⟩, Hv, #HL⟩
  imod (open_all m K c) $$ [HS Hv HC] with ⟨HT, HX, HD⟩
  · isplitr; · iexact HI
    isplitl [HS]; · iexact HS
    isplitl [Hv]
    · iexact Hv
    · iexact HC
  imodintro
  iexists K
  isplitr
  · isplitr
    · iexact HI
    · iexact HL
  isplitl [Ht0 Ht1 Ht2]
  · isplitl [Ht1]
    · isplitr; · iapply (reached_bar (F := F) (left c)); iexact HR
      iexact Ht1
    isplitl [Ht0]
    · isplitr; · iapply (reached_bar (F := F) (right c)); iexact HR
      iexact Ht0
    isplitr; · iapply (reached_bar (F := F) (anti c)); iexact HR
    iexact Ht2
  isplitl [Ha HcB]
  · isplitl [Ha]
    · iexact Ha
    · iexact HcB
  isplitl [HT]; · iexact HT
  isplitl [HX]
  · iexact HX
  · iexact HD

/-! ## The region -/

/-- The one pipeline, and what it holds at each point. -/
abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

/-- A device's buffers when the call has ended: the result's buffer holds the result. -/
def V₂ (c : Dev nD) : Valuation τ sig (Elt F) := Function.update (V₁ m c) (Proc.devRef .tc main_v5) (Rm m c)

/-- The result's buffer after the call, and every other one. -/
theorem V₂_result (c : Dev nD) : V₂ m c (Proc.devRef .tc main_v5) = Rm m c := Function.update_self ..
theorem V₂_of_ne (c : Dev nD) (b : DevRef τ sig) (h : b ≠ Proc.devRef .tc main_v5) : V₂ m c b = V₁ m c b := Function.update_of_ne h ..

/-- The buffers that the call's windows do not stage. -/
def others : Finset (DevRef τ sig) := Pipeline.ucRefs τ sig \ Pipeline.arrRefs (τ := τ) spec0

/-- Holding no buffer is nothing. -/
theorem held_empty (c : Dev nD) (W : Valuation τ sig (Elt F)) : (StableHlo.held (c : Thread nD τ) ∅ W : sProp 𝕄) = BI.emp := by
  unfold StableHlo.held; exact bigSep_empty

/-- The call's invariant at its entry, from the semaphores and scratch that the call makes. -/
theorem region_in (c : Dev nD) : iprop(Pipeline.scopedRest (Pipeline.pin (pcfgs (F := F)) adm 0).spec c ∗ (∃ r, prngReg c r)
      ∗ StableHlo.held (c.tc : Thread nD τ) ∅ (V₁ m c) ∗ ready m c)
    ⊢ (pdats m 0 c).Φ 0 := by
  rw [show (pdats m 0 c).Φ 0 = Φ₀ m c from Φ_first m c,
    show (Pipeline.scopedRest (Ix := Unit) (Name := ℕ) (U := UU) (Lvl := ℕ) (Val := Elt F) (Pipeline.pin (pcfgs (F := F)) adm 0).spec c : sProp 𝕄)
      = scratchAny c from scopedRest0_eq c]
  unfold Φ₀
  iintro ⟨Hs, Hp, -, HK⟩
  isplitl [HK]; · iexact HK
  isplitl [Hs]
  · iexact Hs
  · iexact Hp

/-- The copies' semaphores at zero, listed and all together. -/
theorem zs_eq (c : Dev nD) : iprop(zsS c ∗ zsR c) = (Pipeline.ownSems0 osem c : sProp 𝕄) := by
  rw [ownSems_eq, flows_eq (fun f s => semVal (sendCell f s c) 0), flows_eq (fun f s => semVal (recvCell f s c) 0)]
  rfl

/-- What the call gives back at its end. -/
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barCell c) 0) := by
  rw [show (pdats m 0 c).Φ (Fin.last _) = Φ₁ c from Φ_last m c,
    show (Pipeline.scopedRest (Ix := Unit) (Name := ℕ) (U := UU) (Lvl := ℕ) (Val := Elt F) (Pipeline.pin (pcfgs (F := F)) adm 0).spec c : sProp 𝕄)
      = scratchAny c from scopedRest0_eq c, held_empty]
  unfold Φ₁
  rw [zs_eq]
  iintro ⟨Hb, Hz, Hs, Hp⟩
  isplitl [Hs]; · iexact Hs
  isplitl [Hp]; · iexact Hp
  isplitr; · iempintro
  isplitl [Hz]
  · iexact Hz
  · iexact Hb

/-- The launch's layout facts. -/
theorem kit : Pipeline.PLaunchFacts (nD := nD) (τ := τ) (pcfgs (F := F)) 0 := launch0.toP

/-- What a device owes at first, it owes at cells above the staging cells. -/
theorem O₀_pos {c : Dev nD} {g : GSem nD τ sig} {u : Unit} (h : 0 < O₀ c g u) : u ∈ L g ∧ 0 < lv g u := by
  have bar (e : Dev nD) (h : 0 < tallyAt (nD := nD) (barCell e) () 1 g u) : u ∈ L g ∧ 0 < lv g u := by
    obtain rfl := tallyAt_pos h
    exact ⟨by rw [L_tc]; exact Finset.mem_singleton_self _, Nat.one_pos⟩
  unfold O₀ at h
  rw [Pi.add_apply, Finsupp.add_apply] at h
  rcases Nat.add_pos_iff_pos_or_pos.mp h with h | h
  · rw [Pi.add_apply, Finsupp.add_apply] at h
    rcases Nat.add_pos_iff_pos_or_pos.mp h with h | h
    · rw [Pi.add_apply, Finsupp.add_apply] at h
      rcases Nat.add_pos_iff_pos_or_pos.mp h with h | h
      · obtain ⟨p, -, rfl⟩ := owed_pos _ _ h
        refine ⟨by rw [L_tc]; exact Finset.mem_singleton_self _, ?_⟩
        show 0 < level (.dma (recvS p.1 p.2))
        rw [level_recv]
        exact (by decide : ∀ f, 0 < depth f) p.1
      · exact bar _ h
    · exact bar _ h
  · exact bar _ h

/-- What is owed during the call is owed above the staging semaphores. -/
theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_pos h
  · exact absurd h (Nat.lt_irrefl 0)

/-- The arrays of the call's windows, before it and after it. -/
theorem arr_before (c : Dev nD) (w : Fin cfg0.W) : (dat m c).arrAt w 0 = V₁ m c (Proc.devRef .tc (Pipeline.arrRef spec0 w)) := rfl
/-- The result's array after the call. -/
theorem arr_result (c : Dev nD) : (dat m c).arrAt 3 cfg0.N = Rm m c := by
  refine (dat m c).arrAt_eq_of_after_last 3 t0_0 (by decide +kernel) _ fun j => ?_
  rfl
/-- Every operand's array after the call. -/
theorem arr_after (c : Dev nD) (w : Fin cfg0.W) : (dat m c).arrAt w cfg0.N = V₂ m c (Proc.devRef .tc (Pipeline.arrRef spec0 w)) := by
  match w with
  | 0 => exact ((dat m c).arrAt_in 0 rfl _).trans (V₂_of_ne m c (Proc.devRef .tc main_arg0) (by decide)).symm
  | 1 => exact ((dat m c).arrAt_in 1 rfl _).trans (V₂_of_ne m c (Proc.devRef .tc main_arg1) (by decide)).symm
  | 2 => exact ((dat m c).arrAt_in 2 rfl _).trans (V₂_of_ne m c (Proc.devRef .tc main_v4) (by decide)).symm
  | 3 => exact (arr_result m c).trans (V₂_result m c).symm

/-- The buffers beside the call stay. -/
theorem rest_same (c : Dev nD) : ∀ b ∈ others \ (∅ : Finset (DevRef τ sig)), V₂ m c b = V₁ m c b := fun b hb => by
  refine V₂_of_ne m c b ?_
  rintro rfl
  exact absurd hb (by unfold others; decide)

set_option backward.isDefEq.respectTransparency.types false in
/-- The kernel call, as a region that talks across devices. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ others (Finset.empty_subset _) kit rfl (fun c => (body_obligation m c).loose)
    (fun _ => 0) O₀ (fun c => (owed_first m c).trans (zero_add _).symm) (owed_last m) (fun _ => rfl)
    (fun c w => by unfold Dat.share; split <;> rfl)
    (V₁ m) (V₂ m) (rest_same m)
    (Tk m) (fun c => semVal (barCell c) 0) (ready m) (fun c => semVal (barCell c) 0) (enter m) (region_in m) (region_out m)
    (fun c => by iintro H; imodintro; iexact H)
    (fun _ => 0)
    ⟨fun c w s => by rw [L_tc]; exact Finset.mem_singleton_self _,
      fun c w s => ((by decide +kernel : ∀ (w : Fin 4) (s : Fin (spec0 w).nbuf), level (.dma ((spec0 w).sem s)) = 0) w s).le,
      fun c t g i h => cut m c t g i h⟩
    (fun _ => iprop(emp))
    (arr_before m) (arr_after m)

end Cert.KernelIdeal.Talk

end
-- ==== Proof.Ideal.Launch.lean ====
/-
  The launch: every cell's invariant is made, the copies' cells shut until the call opens them, and
  each device gets its positions, the tokens of the duties it pays, and the credit it waits with.
-/
module

public import proofs.«01_k».proof.Proof.Ideal.Region

@[expose] public section

noncomputable section

namespace Cert.KernelIdeal.Talk

open Cert.Mesh Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The duties' tokens -/

/-- The tokens of the barriers' duties, and those of the copies'. -/
def barTok : Dev nD × Fin 3 ↪ GSem nD τ sig × ℕ × Fin 3 :=
  ⟨fun p => (barCell p.1, 0, p.2), fun _ _ h =>
    Prod.ext (congrArg (fun t : GSem nD τ sig × ℕ × Fin 3 => t.1.1.1) h) (congrArg (fun t : GSem nD τ sig × ℕ × Fin 3 => t.2.2) h)⟩
def copyTok : Dev nD × (Fin 2 × Fin 7 × Fin 2) ↪ GSem nD τ sig × ℕ × Fin 3 :=
  ⟨fun p => (copyEmb p, 0, 0), fun _ _ h => copyEmb.injective (congrArg Prod.fst h)⟩
/-- Both together. -/
def allToks : Finset (GSem nD τ sig × ℕ × Fin 3) := Finset.univ.map barTok ∪ Finset.univ.map copyTok

/-- No copy's semaphore is the barrier's. -/
theorem osem_ne_bar : ∀ x, osem x ≠ .reg barS := by decide

/-- The two kinds of cells have nothing in common, nor have the tokens. -/
theorem cells_disj : Disjoint barCells copyCells := by
  rw [Finset.disjoint_left]
  intro g h₁ h₂
  obtain ⟨c, -, rfl⟩ := Finset.mem_map.mp h₁
  obtain ⟨p, -, h⟩ := Finset.mem_map.mp h₂
  exact osem_ne_bar p.2 (congrArg Prod.snd h)
theorem toks_disj : Disjoint (Finset.univ.map barTok) (Finset.univ.map copyTok) := by
  rw [Finset.disjoint_left]
  intro g h₁ h₂
  obtain ⟨c, -, rfl⟩ := Finset.mem_map.mp h₁
  obtain ⟨p, -, h⟩ := Finset.mem_map.mp h₂
  exact osem_ne_bar p.2 (congrArg (fun t : GSem nD τ sig × ℕ × Fin 3 => t.1.2) h)

/-- Over a device and its copies' cells: the send cells, then the receive cells. -/
theorem copies_eq (Φ : GSem nD τ sig → sProp 𝕄) :
    bigSep Finset.univ (fun p : Dev nD × (Fin 2 × Fin 7 × Fin 2) => Φ (copyEmb p))
      = bigSep Finset.univ fun c : Dev nD => iprop((bigSep Finset.univ fun x : Fin 7 × Fin 2 => Φ (sendCell x.1 x.2 c))
          ∗ bigSep Finset.univ fun x : Fin 7 × Fin 2 => Φ (recvCell x.1 x.2 c)) := by
  rw [bigSep_univ_prod]
  refine bigSep_congr fun c _ => ?_
  rw [bigSep_univ_prod]
  exact bigSep_fin_two (fun k : Fin 2 => bigSep Finset.univ fun x : Fin 7 × Fin 2 => Φ ((c : Thread nD τ), osem (k, x)))

/-- A copy's sender and its receiver change places. -/
def copyE : Dev nD × (Fin 7 × Fin 2) ≃ Dev nD × (Fin 7 × Fin 2) where
  toFun p := (tgt p.2.1 p.1, p.2)
  invFun p := (src p.2.1 p.1, p.2)
  left_inv p := Prod.ext (src_tgt p.2.1 p.1) rfl
  right_inv p := Prod.ext (tgt_src p.2.1 p.1) rfl

/-- What each device has of its receive cells, handed to the senders. -/
theorem to_senders (Φ : GSem nD τ sig → sProp 𝕄) :
    (bigSep Finset.univ fun c : Dev nD => bigSep Finset.univ fun x : Fin 7 × Fin 2 => Φ (recvCell x.1 x.2 c))
      = bigSep Finset.univ fun c : Dev nD => bigSep Finset.univ fun x : Fin 7 × Fin 2 => Φ (recvCell x.1 x.2 (tgt x.1 c)) := by
  rw [← bigSep_univ_prod (fun p : Dev nD × (Fin 7 × Fin 2) => Φ (recvCell p.2.1 p.2.2 p.1)),
    bigSep_univ_equiv copyE (fun p : Dev nD × (Fin 7 × Fin 2) => Φ (recvCell p.2.1 p.2.2 p.1)), bigSep_univ_prod]
  rfl

/-- The barriers' tokens, handed to the devices that signal. -/
theorem to_signallers :
    (bigSep Finset.univ fun p : Dev nD × Fin 3 => (dutyTok ER (barCell p.1) 0 p.2 : sProp 𝕄)) = bigSep Finset.univ fun c : Dev nD => barToks c := by
  rw [bigSep_univ_prod]
  rw [bigSep_congr (s := Finset.univ) (Ψ := fun c : Dev nD =>
      iprop(dutyTok ER (barCell c) 0 0 ∗ dutyTok ER (barCell c) 0 1 ∗ dutyTok ER (barCell c) 0 2))
    fun c _ => bigSep_univ_eq_bigSepL [(0 : Fin 3), 1, 2] (by decide) (by decide) _]
  unfold barToks
  rw [bigSep_sep', bigSep_sep', bigSep_sep', bigSep_sep',
    bigSep_univ_equiv (payeeE 0) (fun c : Dev nD => (dutyTok ER (barCell c) 0 0 : sProp 𝕄)),
    bigSep_univ_equiv (payeeE 1) (fun c : Dev nD => (dutyTok ER (barCell c) 0 1 : sProp 𝕄)),
    bigSep_univ_equiv (payeeE 2) (fun c : Dev nD => (dutyTok ER (barCell c) 0 2 : sProp 𝕄))]
  rfl

/-- All tokens, each at the device that pays with it. -/
theorem toks_dealt :
    bigSep allToks (fun x => (dutyTok ER x.1 x.2.1 x.2.2 : sProp 𝕄))
      = iprop((bigSep Finset.univ fun c : Dev nD => barToks c)
        ∗ (bigSep Finset.univ fun c : Dev nD => bigSep Finset.univ fun x : Fin 7 × Fin 2 => dutyTok ER (sendCell x.1 x.2 c) 0 0)
        ∗ bigSep Finset.univ fun c : Dev nD => bigSep Finset.univ fun x : Fin 7 × Fin 2 => dutyTok ER (recvCell x.1 x.2 (tgt x.1 c)) 0 0) := by
  rw [← to_senders (fun g => dutyTok ER g 0 0), ← bigSep_sep', ← copies_eq (fun g => dutyTok ER g 0 0), ← to_signallers]
  unfold allToks
  rw [bigSep_union toks_disj, bigSep_map, bigSep_map]
  rfl

/-! ## The launch's credit -/

/-- A device owes a landing to a cell exactly if it is the sender there. -/
theorem owed_at (l : List (Fin 7 × Fin 2)) (d c : Dev nD) (f : Fin 7) (s : Fin 2) :
    owed l d (recvCell f s c) () = if d = src f c then l.count (f, s) * NB else 0 := by
  induction l with
  | nil =>
    rw [List.count_nil, Nat.zero_mul, ite_self]
    rfl
  | cons p l ih =>
    show (owed l d + tallyAt (recvCell p.1 p.2 (tgt p.1 d)) () NB) (recvCell f s c) () = _
    rw [Pi.add_apply, Finsupp.add_apply, ih, tallyAt_apply, List.count_cons]
    by_cases hp : p = (f, s)
    · subst hp
      by_cases hd : d = src f c
      · subst hd
        rw [if_pos rfl, if_pos rfl, if_pos ⟨by rw [tgt_src], rfl⟩, if_pos (beq_self_eq_true _), Nat.add_mul, Nat.one_mul]
      · rw [if_neg hd, if_neg hd, if_neg]
        rintro ⟨h, -⟩
        refine hd ?_
        have : c = tgt f d := congrArg (fun g : GSem nD τ sig => g.1.1) h
        rw [this, src_tgt]
    · have hne : ¬ (recvCell f s c = recvCell p.1 p.2 (tgt p.1 d) ∧ () = ()) := by
        rintro ⟨h, -⟩
        refine hp ?_
        have := osem_inj (show osem (1, p) = osem (1, (f, s)) from (congrArg Prod.snd h).symm)
        exact congrArg Prod.snd this
      rw [if_neg hne, if_neg (c := (p == (f, s)) = true) (by simpa using hp)]
      simp only [Nat.add_zero]

/-- No landing is owed to a barrier. -/
theorem owed_bar (l : List (Fin 7 × Fin 2)) (d c : Dev nD) : owed l d (barCell c) () = 0 := by
  by_contra h
  obtain ⟨p, -, e⟩ := owed_pos l d (Nat.pos_of_ne_zero h)
  exact osem_ne_bar (1, p) (congrArg Prod.snd e).symm

/-- A signal to one barrier counts there only. -/
theorem tally_bar (e c : Dev nD) : tallyAt (nD := nD) (barCell e) () 1 (barCell c) () = if c = e then 1 else 0 := by
  rw [tallyAt_apply]
  by_cases h : c = e
  · subst h; rw [if_pos ⟨rfl, rfl⟩, if_pos rfl]
  · rw [if_neg h, if_neg fun hh => h (congrArg (fun g : GSem nD τ sig => g.1.1) hh.1)]
theorem tally_other (e c : Dev nD) (f : Fin 7) (s : Fin 2) : tallyAt (nD := nD) (barCell e) () 1 (recvCell f s c) () = 0 := by
  rw [tallyAt_apply, if_neg fun hh => osem_ne_bar (1, (f, s)) (congrArg Prod.snd hh.1)]

/-- The launch's credit at a barrier is three signals. -/
theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same]
  have h (d : Dev nD) : O₀ d (barCell c) () = 0 + (if c = anti d then 1 else 0) + (if c = right d then 1 else 0) + (if c = left d then 1 else 0) := by
    unfold O₀
    rw [Pi.add_apply, Finsupp.add_apply, Pi.add_apply, Finsupp.add_apply, Pi.add_apply, Finsupp.add_apply, owed_bar, tally_bar, tally_bar, tally_bar]
  rw [Finset.sum_congr rfl fun d _ => h d]
  exact (by decide : ∀ c : Fin 8, ∑ d : Fin 8, (0 + (if c = anti d then 1 else 0) + (if c = right d then 1 else 0) + (if c = left d then 1 else 0)) = 3) c

/-- The launch's credit at a receive cell is one landing. -/
theorem launch_recv (f : Fin 7) (s : Fin 2) (c : Dev nD) :
    tallyOn (recvCell f s c) (launchCredit (Pipeline.owing O₀) 0 (recvCell f s c)) = (tallyAt (recvCell f s c) () NB : CellTallies nD τ sig Unit) := by
  unfold tallyAt
  refine congrArg _ (Finsupp.ext fun u => ?_)
  cases u
  rw [Pipeline.launchCredit_owing, Finsupp.single_eq_same]
  have h (d : Dev nD) : O₀ d (recvCell f s c) () = if d = src f c then NB else 0 := by
    unfold O₀
    rw [Pi.add_apply, Finsupp.add_apply, Pi.add_apply, Finsupp.add_apply, Pi.add_apply, Finsupp.add_apply, owed_at, tally_other, tally_other, tally_other,
      show sends.count (f, s) = 1 from (by decide : ∀ f s, sends.count (f, s) = 1) f s, Nat.one_mul]
    simp only [Nat.add_zero]
  rw [Finset.sum_congr rfl fun d _ => h d, Finset.sum_ite_eq' Finset.univ (src f c) fun _ => NB, if_pos (Finset.mem_univ _)]

/-- The receive semaphores, by flow and half. -/
def recvSem : Fin 7 × Fin 2 ↪ SemLoc sig := ⟨fun x => osem (1, x), fun _ _ h => congrArg Prod.snd (osem_inj h)⟩

/-- The launch deals each device the credit it waits with. -/
theorem creds (c : Dev nD) : (Pipeline.launchCred O₀ c : sProp 𝕄) ⊢ credits c := by
  unfold Pipeline.launchCred credits
  rw [bigSep_univ_at _ (SemLoc.reg barS), launch_bar]
  refine sep_mono_right ?_
  have hsub : Finset.univ.map recvSem ⊆ Finset.univ.erase (SemLoc.reg barS) := fun sm h => by
    obtain ⟨x, -, rfl⟩ := Finset.mem_map.mp h
    exact Finset.mem_erase.mpr ⟨osem_ne_bar (1, x), Finset.mem_univ _⟩
  have heq : bigSep (Finset.univ.map recvSem) (fun sm => (cred (tallyOn ((c : Thread nD τ), sm) (launchCredit (Pipeline.owing O₀) 0 ((c : Thread nD τ), sm))) : sProp 𝕄))
      = bigSep Finset.univ fun x : Fin 7 × Fin 2 => (cred (tallyAt (recvCell x.1 x.2 c) () NB) : sProp 𝕄) := by
    rw [bigSep_map]
    refine bigSep_congr fun x _ => ?_
    rw [← launch_recv]
    rfl
  rw [← heq]
  exact bigSep_subset hsub

/-! ## What the launch deals -/

/-- A resource that the launch gives to device 0 alone. -/
def onFirst (P : sProp 𝕄) (c : Dev nD) : sProp 𝕄 := if c = 0 then P else iprop(emp)
/-- Over all devices it is there once. -/
theorem onFirst_eq (P : sProp 𝕄) : bigSep Finset.univ (onFirst P) = P := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, bigSep_emp_const]
  unfold onFirst
  rw [if_pos rfl]
  exact BI.equiv_iff.mp sep_emp

/-- The launch's element: the pipeline's part, and the protocol's. -/
def u₀ : UU :=
  (initOf (Pipeline.cells (Pipeline.pin (pcfgs (F := F)) adm) cellOf_inj) (Pipeline.launchToks (Pipeline.pin (pcfgs (F := F)) adm) cellOf_inj),
    launchOf barCells copyCells allToks)
/-- The protocol's part of the element, on device 0. -/
def G : Dev nD → sProp 𝕄 := onFirst (BI.own (ER (launchOf barCells copyCells allToks)))

/-- A device's buffers at the launch. -/
abbrev V₀ (c : Dev nD) : Valuation τ sig (Elt F) := fun b => m (c, b)

/-- What rides beside the buffers up to the call. -/
def riding (c : Dev nD) : sProp 𝕄 := iprop(Tk m c ∗ (∃ r, prngReg c r) ∗ owes' c (O₀ c))
/-- A device at the start of the program. -/
abbrev T₀ (c : Dev nD) : sProp 𝕄 := iprop(StableHlo.held (c : Thread nD τ) (Pipeline.ucRefs τ sig) (V₀ m c) ∗ riding m c)

/-- What a device has at the start apart from the protocol's own. -/
def bundle (c : Dev nD) : sProp 𝕄 :=
  iprop(StableHlo.held (c : Thread nD τ) (Pipeline.ucRefs τ sig) (V₀ m c) ∗ credits c ∗ owes (c : Thread nD τ) (O₀ c) ∅ ∗ ∃ r, prngReg c r)

/-- A device's start from its parts. -/
theorem T₀_intro (K : GSem nD τ sig → ℕ) (c : Dev nD) : iprop(records m K ∗ (linear c ∗ bundle m c)) ⊢ T₀ m c := by
  unfold bundle T₀ riding Tk
  iintro ⟨#HR, Hl, Hh, Hc, HO, Hp⟩
  isplitl [Hh]; · iexact Hh
  isplitl [Hl Hc]
  · isplitl [Hl]
    · iexists K
      isplitr
      · iexact HR
      · iexact Hl
    · iexact Hc
  isplitl [Hp]; · iexact Hp
  iexists ∅; iexact HO

/-- The barrier is the only semaphore that outlives the call. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- What the launch deals to a device. -/
def dealt (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

/-- What is dealt, in the parts used below. -/
theorem dealt_parts (c : Dev nD) : dealt m ρ c ⊢ (iprop(bundle m c ∗ (semVal (barCell c) 0 ∗ G c)) : sProp 𝕄) := by
  unfold dealt
  rw [show unscopedBufs c (fun b => m ((c : Thread nD τ).loc b)) = StableHlo.held (c : Thread nD τ) (Pipeline.ucRefs τ sig) (V₀ m c)
      from Pipeline.unscopedBufs_held c (V₀ m c), unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]
  · iexact Hus
  · iexact HG

/-- The protocol's own, dealt: from the positions, the rights to open and the tokens. -/
theorem linear_dealt :
    iprop(bigSep barCells (fun g => atPos ER g 0 ∅ 0) ∗ bigSep copyCells (fun g => openTok ER g)
        ∗ bigSep allToks (fun x => dutyTok ER x.1 x.2.1 x.2.2))
      ⊢ (bigSep Finset.univ fun c : Dev nD => linear c : sProp 𝕄) := by
  have hx : (bigSep Finset.univ fun c : Dev nD => iprop(((bigSep Finset.univ fun x : Fin 7 × Fin 2 => openTok ER (sendCell x.1 x.2 c))
        ∗ bigSep Finset.univ fun x : Fin 7 × Fin 2 => openTok ER (recvCell x.1 x.2 c))
        ∗ ((bigSep Finset.univ fun x : Fin 7 × Fin 2 => dutyTok ER (sendCell x.1 x.2 c) 0 0)
        ∗ bigSep Finset.univ fun x : Fin 7 × Fin 2 => dutyTok ER (recvCell x.1 x.2 (tgt x.1 c)) 0 0)) : sProp 𝕄)
      ⊢ bigSep Finset.univ fun c : Dev nD => bigSep Finset.univ fun x : Fin 7 × Fin 2 => shut x.1 x.2 c :=
    bigSep_mono fun c _ => (BIClass.sep_mono (both _ _) (both _ _)).trans (both _ _)
  unfold linear
  rw [toks_dealt]
  unfold barCells copyCells
  rw [bigSep_map, bigSep_map, copies_eq (fun g => openTok ER g)]
  iintro ⟨Ha, Ho, Hb, HtS, HtR⟩
  ihave H := (each (F := F) _ _) $$ Ho
  icases H with ⟨HoS, HoR⟩
  iapply (both _ _); isplitl [Ha]; · iexact Ha
  iapply (both _ _); isplitl [Hb]; · iexact Hb
  ihave H1 := (both (F := F) _ _) $$ [HoS HoR]
  · isplitl [HoS]
    · iexact HoS
    · iexact HoR
  ihave H2 := (both (F := F) _ _) $$ [HtS HtR]
  · isplitl [HtS]
    · iexact HtS
    · iexact HtR
  ihave H := (both (F := F) _ _) $$ [H1 H2]
  · isplitl [H1]
    · iexact H1
    · iexact H2
  iapply hx $$ H

/-- From what the launch deals to every device at its start. -/
theorem init :
    iprop((bigSep Finset.univ fun c : Dev nD => dealt m ρ c) ∗ levAts L lv) ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hd : (bigSep Finset.univ fun c : Dev nD => dealt m ρ c : sProp 𝕄)
      ⊢ bigSep Finset.univ fun c : Dev nD => iprop(bundle m c ∗ (semVal (barCell c) 0 ∗ G c)) := bigSep_mono fun c _ => dealt_parts m ρ c
  iintro ⟨H, -⟩
  ihave H := hd $$ H
  ihave H := (each (F := F) _ _) $$ H
  icases H with ⟨HB, H⟩
  ihave H := (each (F := F) _ _) $$ H
  icases H with ⟨Hv, HG⟩
  ihave Hu := (show bigSep Finset.univ (G (F := F)) ⊢ BI.own (ER (launchOf barCells copyCells allToks)) from
    Entails.of_eq (onFirst_eq (F := F) (BI.own (ER (launchOf barCells copyCells allToks))))) $$ HG
  imod (Rounds.fund_launch ER (Rd (Xm m)) cells_disj (fun g _ h => h) allToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear c ∗ bundle m c)) fun c _ => T₀_intro m K c)
  isplitr
  · unfold records
    isplitr
    · iexact Hinv
    · iexact Hr
  iapply (both _ _)
  isplitr [HB]
  · iapply (linear_dealt (F := F))
    isplitl [Hat]; · iexact Hat
    isplitl [Hopen]
    · iexact Hopen
    · iexact Htok
  · iexact HB

end Cert.KernelIdeal.Talk

end
-- ==== Proof.Ideal.Run.lean ====
/-
  The run of the whole program: the host's own operations, then the kernel call.
-/
module

public import proofs.«01_k».proof.Proof.Ideal.Launch

@[expose] public section

noncomputable section

namespace Cert.KernelIdeal.Talk

open Cert.Mesh Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The host's part: the scales are reshaped and multiplied. -/
def host : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => List.forall_iff_forall_mem.mp hostOps0_fresh op h) (V₀ m) (riding m)

/-- The program: the host's part, then the call. -/
def segs : List (Pipeline.Seg (Ix := Unit) (Name := ℕ) (U := UU) (Lvl := ℕ) (pcfgs (F := F)) adm (pdats m) () defs₀ 𝒱₀ L lv) :=
  [.host (host m), .region (region m)]

/-- A device at the end of the program. -/
abbrev Tₙ (c : Dev nD) : sProp 𝕄 := iprop(StableHlo.held (c : Thread nD τ) (Pipeline.ucRefs τ sig) (V₂ m c) ∗ semVal (barCell c) 0)

/-- The call's arrays are among the program's buffers. -/
theorem arr_sub : Pipeline.arrRefs spec0 ⊆ Pipeline.ucRefs τ sig := by decide +kernel

/-- The buffers between the host's part and the call, parted into those the call is given and the others. -/
theorem parted (c : Dev nD) (W : Valuation τ sig (Elt F)) :
    (StableHlo.held (c : Thread nD τ) (Pipeline.ucRefs τ sig) W : sProp 𝕄)
      = iprop(StableHlo.held (c : Thread nD τ) (Pipeline.arrRefs spec0) W ∗ StableHlo.held (c : Thread nD τ) others W) :=
  StableHlo.held_sub_split _ arr_sub W

/-- What the host's part leaves is what the call starts from. -/
theorem into (c : Dev nD) :
    iprop(StableHlo.held (c : Thread nD τ) (Pipeline.ucRefs τ sig) (V₁ m c) ∗ riding m c) ⊢ (region m).pre c := by
  show _ ⊢ iprop(StableHlo.held (c : Thread nD τ) (Pipeline.arrRefs spec0) (V₁ m c) ∗ (∃ r, prngReg c r)
    ∗ (StableHlo.held (c : Thread nD τ) others (V₁ m c) ∗ emp) ∗ Tk m c ∗ ∃ Wd, owes (c : Thread nD τ) (0 + O₀ c) Wd)
  rw [parted, zero_add]
  unfold riding
  iintro ⟨⟨Ha, Ho⟩, Ht, Hp, HO⟩
  isplitl [Ha]; · iexact Ha
  isplitl [Hp]; · iexact Hp
  isplitl [Ho]
  · isplitl [Ho]
    · iexact Ho
    · iempintro
  isplitl [Ht]; · iexact Ht
  icases HO with ⟨%Wd, HO⟩
  iexists Wd; iexact HO

/-- What the call leaves is a device's end. -/
theorem outof (c : Dev nD) :
    (region m).post c ⊢ iprop(Tₙ m c ∗ ∃ W, owes (c : Thread nD τ) (0 : CellTallies nD τ sig Unit) W) := by
  show iprop(StableHlo.held (c : Thread nD τ) (Pipeline.arrRefs spec0) (V₂ m c) ∗ (∃ r, prngReg c r)
    ∗ (StableHlo.held (c : Thread nD τ) others (V₂ m c) ∗ emp) ∗ semVal (barCell c) 0 ∗ ∃ Wd, owes (c : Thread nD τ) 0 Wd) ⊢ _
  unfold Tₙ
  rw [parted]
  iintro ⟨Ha, -, ⟨Ho, -⟩, Hb, HO⟩
  isplitr [HO]
  · isplitl [Ha Ho]
    · isplitl [Ha]
      · iexact Ha
      · iexact Ho
    · iexact Hb
  · iexact HO

/-- The arguments and the result. -/
def five : Finset (DevRef τ sig) :=
  {Proc.devRef .tc main_arg0, Proc.devRef .tc main_arg1, Proc.devRef .tc main_arg2, Proc.devRef .tc main_arg3, Proc.devRef .tc main_v5}

/-- The five buffers that the claims speak of, out of all. -/
theorem read_five (c : Dev nD) (W : Valuation τ sig (Elt F)) :
    (StableHlo.held (c : Thread nD τ) (Pipeline.ucRefs τ sig) W : sProp 𝕄)
      ⊢ iprop(((c, Proc.devRef .tc main_arg0) ↦{fullShare} W (Proc.devRef .tc main_arg0))
        ∗ ((c, Proc.devRef .tc main_arg1) ↦{fullShare} W (Proc.devRef .tc main_arg1))
        ∗ ((c, Proc.devRef .tc main_arg2) ↦{fullShare} W (Proc.devRef .tc main_arg2))
        ∗ ((c, Proc.devRef .tc main_arg3) ↦{fullShare} W (Proc.devRef .tc main_arg3))
        ∗ ((c, Proc.devRef .tc main_v5) ↦{fullShare} W (Proc.devRef .tc main_v5))) := by
  refine BIBase.Entails.trans (bigSep_subset (t := five) (by decide +kernel)) ?_
  rw [bigSep_eq_bigSepL_of_eq [Proc.devRef .tc main_arg0, Proc.devRef .tc main_arg1, Proc.devRef .tc main_arg2,
    Proc.devRef .tc main_arg3, Proc.devRef .tc main_v5] (by decide) (by decide)]
  exact BIBase.Entails.rfl

/-- A semaphore that outlives the call is the barrier's. -/
theorem unscoped_eq : ∀ sm : SemLoc sig, sm.isScoped .tc = false → sm = .reg barS := by decide

set_option backward.isDefEq.respectTransparency.types false in
/-- From any memory and zero counters every fair execution of the program ends, the arguments are as they
    were, the result is the gathered product, and every counter is zero. -/
theorem run_main : θ_run defs (onTc (τ := τ) (main (F := F))) (s₀ m ρ)
    (fun r => (∀ c : Dev nD, (r.2.mem (c, Proc.devRef .tc main_arg0) = m (c, Proc.devRef .tc main_arg0)
        ∧ r.2.mem (c, Proc.devRef .tc main_arg1) = m (c, Proc.devRef .tc main_arg1)
        ∧ r.2.mem (c, Proc.devRef .tc main_arg2) = m (c, Proc.devRef .tc main_arg2)
        ∧ r.2.mem (c, Proc.devRef .tc main_arg3) = m (c, Proc.devRef .tc main_arg3))
        ∧ r.2.mem (c, Proc.devRef .tc main_v5) = Rm m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (region m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [onFirst_eq]; iexact HX)
    (T₀ := T₀ m) (Tₙ := Tₙ m)
    (hch := ⟨fun c => .rfl, fun c => into m c, fun c => outof m c⟩)
    (hinit := init m ρ)
    (QY := fun c s => ((s.mem (c, Proc.devRef .tc main_arg0) = V₂ m c (Proc.devRef .tc main_arg0)
        ∧ s.mem (c, Proc.devRef .tc main_arg1) = V₂ m c (Proc.devRef .tc main_arg1)
        ∧ s.mem (c, Proc.devRef .tc main_arg2) = V₂ m c (Proc.devRef .tc main_arg2)
        ∧ s.mem (c, Proc.devRef .tc main_arg3) = V₂ m c (Proc.devRef .tc main_arg3))
        ∧ s.mem (c, Proc.devRef .tc main_v5) = V₂ m c (Proc.devRef .tc main_v5)) ∧ s.sem (barCell c) = 0)
    (hfin := fun c s' => by
      iintro ⟨⟨Hh, Hb⟩, HSI⟩
      ihave H := (read_five (F := F) c (V₂ m c)) $$ Hh
      icases H with ⟨H0, H1, H2, H3, H5⟩
      icombine HSI H0 gives %h0
      icombine HSI H1 gives %h1
      icombine HSI H2 gives %h2
      icombine HSI H3 gives %h3
      icombine HSI H5 gives %h5
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3⟩,
          Buf.eq_of_forall_mem_univ h5⟩, by simpa using hb⟩
      iexact HSI)
    (hQ := fun s h hs => ⟨fun c => by
        obtain ⟨⟨⟨h0, h1, h2, h3⟩, h5⟩, -⟩ := h c
        rw [V₂_of_ne m c (Proc.devRef .tc main_arg0) (by decide)] at h0
        rw [V₂_of_ne m c (Proc.devRef .tc main_arg1) (by decide)] at h1
        rw [V₂_of_ne m c (Proc.devRef .tc main_arg2) (by decide)] at h2
        rw [V₂_of_ne m c (Proc.devRef .tc main_arg3) (by decide)] at h3
        rw [V₂_result] at h5
        exact ⟨⟨h0.trans (V_main_arg0 m c), h1.trans (V_main_arg1 m c), h2.trans (V_main_arg2 m c), h3.trans (V_main_arg3 m c)⟩, h5⟩,
      sem_eq_zero hs fun c sm hsm => by
        obtain rfl := unscoped_eq sm hsm
        exact (h c).2⟩)

end Cert.KernelIdeal.Talk

end
-- ==== Proof.Value.lean ====
/-
  The values: over the extended reals, what the kernel leaves on a device is that device's columns of
  the whole product.
-/
module

public import proofs.«01_k».proof.Proof.Ideal.Run
public import proofs.«01_k».proof.Proof.Gen.ReferenceIdeal.Run
public import Idealize.ShloMosaic.Lib.Layout
public import Idealize.ShloMosaic.Lib.Pointwise

@[expose] public section

noncomputable section

namespace Cert.Agree

open Idealize.ShloMosaic Idealize.ShloMosaic.TcCoe Cert.KernelIdeal.Talk

/-- The reference's result, as a function of its arguments. -/
def whole (x : Vec Ideal Cert.ReferenceIdeal.S4096x4096 .i8) (w : Vec Ideal Cert.ReferenceIdeal.S4096x8192 .i8)
    (a b : Vec Ideal Cert.ReferenceIdeal.S1 .f32) : FVec Ideal Cert.ReferenceIdeal.S4096x8192 .f32 :=
  open Cert.ReferenceIdeal Cert.ReferenceIdeal.Gen in
  mulf (Host.dotGeneral dot_S4096x4096_S4096x8192_S4096x8192_1_0_0_1_n_n none (sitofp .f32 (extsi 32 x natLt_8_32)) (sitofp .f32 (extsi 32 w natLt_8_32)))
    (broadcastInDim S4096x8192 ![0, 1] bcast_S1x1_S4096x8192_0_1 (broadcastInDim S1x1 ![1] bcast_S1_S1x1_1 (mulf a b)))

/-- The integer that a word holds, as an extended real. -/
def num (v : BitVec 8) : EReal := ((v.toInt : ℝ) : EReal)

/-- The reference at an element: a row of `x` times a column of `w`, times the product of the scales. -/
theorem whole_apply (x : Vec Ideal Cert.ReferenceIdeal.S4096x4096 .i8) (w : Vec Ideal Cert.ReferenceIdeal.S4096x8192 .i8)
    (a b : Vec Ideal Cert.ReferenceIdeal.S1 .f32) (r : Fin 4096) (l : Fin 8192) :
    whole x w a b (ix2 r l) = (∑ k : Fin 4096, num (x (ix2 r k)) * num (w (ix2 k l))) * (a (ix1 0) * b (ix1 0)) := by
  pointwise [whole, num]
  have e (v : BitVec 8) : (FloatOps.sitofp (F := Ideal) .f32 (BitVec.signExtend 32 v) : EReal) = ((v.toInt : ℝ) : EReal) := by
    rw [show (FloatOps.sitofp (F := Ideal) .f32 (BitVec.signExtend 32 v) : EReal) = (((BitVec.signExtend 32 v).toInt : ℝ) : EReal) from rfl,
      BitVec.toInt_signExtend_of_le (by decide)]
  exact congrArg (· * (a (ix1 0) * b (ix1 0))) (Finset.sum_congr rfl fun k _ => congrArg₂ (· * ·) (e _) (e _))

/-- A block of the kernel's result at an element. -/
theorem block_apply (x : Vec Ideal Cert.KernelIdeal.S512x4096 .i8) (w : Vec Ideal Cert.KernelIdeal.S4096x1024 .i8) (s : EReal) (r : Fin 512) (l : Fin 1024) :
    Cert.KernelIdeal.Gen.k0_pay2 (F := Ideal) x w s (ix2 r l) = (∑ k : Fin 4096, num (x (ix2 r k)) * num (w (ix2 k l))) * s := by
  pointwise [Cert.KernelIdeal.Gen.k0_pay2, num]
  rfl

/-- The scale the kernel is given is the product of the two. -/
theorem scale_eq (m : (ℓ : Loc Cert.KernelIdeal.nD Cert.KernelIdeal.τ Cert.KernelIdeal.sig) → Buf (Elt Ideal) ℓ) (c : Dev Cert.KernelIdeal.nD) :
    scl (Sm m) c = mulf (F := Ideal) (φ := .f32) (m (c, Proc.devRef .tc Cert.KernelIdeal.main_arg2)) (m (c, Proc.devRef .tc Cert.KernelIdeal.main_arg3)) (ix1 0) := by
  unfold scl Sm Cert.KernelIdeal.Gen.V
  after_results
  open Cert.KernelIdeal Cert.KernelIdeal.Gen in
  show shapeCast S1x1 (mulf (F := Ideal) (φ := .f32) (shapeCast S_ (m (c, Proc.devRef .tc main_arg2) : Vec Ideal S1 .f32) shapeCasts_S1_S_)
    (shapeCast S_ (m (c, Proc.devRef .tc main_arg3) : Vec Ideal S1 .f32) shapeCasts_S1_S_)) shapeCasts_S_S1x1 (Shape.Idx.first Nat.one_pos) = _
  pointwise

/-- Where an element of a device's result lies: its block's row and its place in the whole. -/
theorem inRow_at (r : Fin 4096) (l : Fin 1024) : inRow (ix2 r l) = ix2 ⟨r.val % 512, Nat.mod_lt _ (by decide)⟩ l :=
  funext fun a => Fin.ext (by match a with | 0 => rfl | 1 => rfl)

/-- The rows and the columns are cut into eight blocks. -/
theorem rows_cut : Layout.Tiles ⟨2, ![512, 4096]⟩ ⟨2, ![4096, 4096]⟩ 0 8 := by decide
theorem cols_cut : Layout.Tiles ⟨2, ![4096, 1024]⟩ ⟨2, ![4096, 8192]⟩ 1 8 := by decide

section
open Cert.KernelIdeal
variable (m : (ℓ : Loc nD τ sig) → Buf (Elt Ideal) ℓ) (x : Vec Ideal Cert.ReferenceIdeal.S4096x4096 .i8) (w : Vec Ideal Cert.ReferenceIdeal.S4096x8192 .i8)
  (a b : Vec Ideal Cert.ReferenceIdeal.S1 .f32)
  (hx : ∀ c : Dev nD, m (c, Proc.devRef .tc main_arg0) = Layout.block ⟨2, ![512, 4096]⟩ ⟨2, ![4096, 4096]⟩ 0 8 c x rows_cut)
  (hw : ∀ c : Dev nD, m (c, Proc.devRef .tc main_arg1) = Layout.block ⟨2, ![4096, 1024]⟩ ⟨2, ![4096, 8192]⟩ 1 8 c w cols_cut)
  (ha : ∀ c : Dev nD, m (c, Proc.devRef .tc main_arg2) = a) (hb : ∀ c : Dev nD, m (c, Proc.devRef .tc main_arg3) = b)
include hx hw ha hb

/-- A device's result is its block of columns of the reference's. -/
theorem agree (c : Dev nD) : Rm m c = Layout.block ⟨2, ![4096, 1024]⟩ ⟨2, ![4096, 8192]⟩ 1 8 c (whole x w a b) cols_cut := by
  funext i
  obtain ⟨r, l, rfl⟩ : ∃ (r : Fin 4096) (l : Fin 1024), i = ix2 r l := ⟨i 0, i 1, eq_ix2 i⟩
  have hX (k : Fin 4096) : Xm m (rowBlk (ix2 r l)) (ix2 ⟨r.val % 512, Nat.mod_lt _ (by decide)⟩ k) = x (ix2 r k) := by
    rw [show Xm m (rowBlk (ix2 r l)) = _ from (Cert.KernelIdeal.Gen.V_main_arg0 m _).trans (hx _), Layout.block_apply]
    refine congrArg x (funext fun a => Fin.ext ?_)
    match a with
    | 0 => exact Nat.div_add_mod' r.val 512
    | 1 => rfl
  have hW (k : Fin 4096) : Wm m c (ix2 k l) = w (ix2 k ⟨c.val * 1024 + l.val, by have := c.isLt; have h : nD = 8 := rfl; omega⟩) := by
    rw [show Wm m c = _ from (Cert.KernelIdeal.Gen.V_main_arg1 m _).trans (hw _), Layout.block_apply]
    refine congrArg w (funext fun a => Fin.ext ?_)
    match a with
    | 0 => rfl
    | 1 => rfl
  rw [Layout.block_apply, show cols_cut.idx c (ix2 r l)
      = ix2 r ⟨c.val * 1024 + l.val, by have := c.isLt; have h : nD = 8 := rfl; omega⟩ from
    funext fun a => Fin.ext (by match a with | 0 => rfl | 1 => rfl), whole_apply]
  show prod (Xm m) (Wm m) (Sm m) c (rowBlk (ix2 r l)) (inRow (ix2 r l)) = _
  unfold prod
  rw [inRow_at, block_apply, scale_eq, ha, hb]
  refine congrArg₂ (· * ·) (Finset.sum_congr rfl fun k _ => ?_) rfl
  rw [hX, hW]
end

end Cert.Agree

end
-- ==== Proof.lean ====
/-
  The five claims, put together: the kernel and its reading over the extended reals run and leave their
  arguments, the reference does, the second program is the first unchanged, and each device's result is
  its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Real.Run
public import proofs.«01_k».proof.Proof.Value
public import Idealize.ShloMosaic.Adequacy
public import Idealize.ShloMosaic.Init

@[expose] public section

noncomputable section

namespace Cert.Proof

open Idealize.ShloMosaic Idealize.SL.Sem

/-- The kernel runs, leaves its arguments, and leaves every counter at zero. -/
theorem kernel : Cert.quiescent_Kernel :=
  fun m g _ => (θ_run Cert.Kernel.defs _ _).mono (fun _ h => ⟨fun c => (h.1 c).1, h.2⟩) (Cert.Kernel.Talk.run_main (F := Bits) m g)

/-- The same over the extended reals. -/
theorem kernelIdeal : Cert.quiescent_KernelIdeal :=
  fun m g _ => (θ_run Cert.KernelIdeal.defs _ _).mono (fun _ h => ⟨fun c => (h.1 c).1, h.2⟩) (Cert.KernelIdeal.Talk.run_main (F := Ideal) m g)

/-- The reference has no counter. -/
theorem no_counter (s : SemLoc Cert.ReferenceIdeal.sig) : False :=
  absurd (Finset.mem_univ s) ((by decide : ∀ t : SemLoc Cert.ReferenceIdeal.sig, t ∉ Finset.univ) s)

/-- The reference runs, leaves its arguments, and leaves every counter at zero. -/
theorem referenceIdeal : Cert.quiescent_ReferenceIdeal :=
  fun m g _ => (θ_run Cert.ReferenceIdeal.defs _ _).mono
    (fun _ h => ⟨fun c => (h c).2, funext fun s => (no_counter s.2).elim⟩) (Cert.ReferenceIdeal.Value.run (F := Ideal) m g)

/-- Each device's result is its block of columns of the reference's result. -/
theorem algebraic : Cert.algebraic_KernelIdeal_ReferenceIdeal := by
  intro m g m' g' _ h
  refine ⟨Cert.Agree.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun _ hr c => ⟨(hr.1 c).2.trans ?_, (hr.1 c).1⟩) (Cert.KernelIdeal.Talk.run_main (F := Ideal) m g)
    exact Cert.Agree.agree m _ _ _ _ (fun c => (h c).1) (fun c => (h c).2.1) (fun c => (h c).2.2.1) (fun c => (h c).2.2.2) c
  · exact (θ_run Cert.ReferenceIdeal.defs _ _).mono (fun _ hr => hr 0) (Cert.ReferenceIdeal.Value.run (F := Ideal) m' g')

/-- All five claims. -/
theorem claim : Cert.Claim :=
  ⟨Cert.Kernel.Gen.facts, Cert.KernelIdeal.Gen.facts, Cert.ReferenceIdeal.Gen.facts, kernel, kernelIdeal, referenceIdeal, trivial, algebraic⟩

end Cert.Proof

end
